-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x192x224x224 : Shape := ⟨4, ![4, 192, 224, 224]⟩
abbrev S4x6 : Shape := ⟨2, ![4, 6]⟩
abbrev S_ : Shape := ⟨0, ![]⟩
abbrev S223 : Shape := ⟨1, ![223]⟩
abbrev S1 : Shape := ⟨1, ![1]⟩
abbrev S224 : Shape := ⟨1, ![224]⟩
abbrev S1x224 : Shape := ⟨2, ![1, 224]⟩
abbrev S1x1x1x224 : Shape := ⟨4, ![1, 1, 1, 224]⟩
abbrev S224x1x1x224 : Shape := ⟨4, ![224, 1, 1, 224]⟩
abbrev S224x224 : Shape := ⟨2, ![224, 224]⟩
abbrev S224x1 : Shape := ⟨2, ![224, 1]⟩
abbrev S1x224x1x1 : Shape := ⟨4, ![1, 224, 1, 1]⟩
abbrev S1x224x224x1 : Shape := ⟨4, ![1, 224, 224, 1]⟩
abbrev S50176 : Shape := ⟨1, ![50176]⟩
abbrev S1x50176 : Shape := ⟨2, ![1, 50176]⟩
abbrev S3x50176 : Shape := ⟨2, ![3, 50176]⟩
abbrev S4x2x3 : Shape := ⟨3, ![4, 2, 3]⟩
abbrev S4x2x3x1 : Shape := ⟨4, ![4, 2, 3, 1]⟩
abbrev S1x1x3x50176 : Shape := ⟨4, ![1, 1, 3, 50176]⟩
abbrev S4x2x3x50176 : Shape := ⟨4, ![4, 2, 3, 50176]⟩
abbrev S4x2x50176 : Shape := ⟨3, ![4, 2, 50176]⟩
abbrev S4x1x50176 : Shape := ⟨3, ![4, 1, 50176]⟩
abbrev S4x50176 : Shape := ⟨2, ![4, 50176]⟩
abbrev S200704 : Shape := ⟨1, ![200704]⟩
abbrev S38535168 : Shape := ⟨1, ![38535168]⟩
abbrev S3136 : Shape := ⟨1, ![3136]⟩
abbrev S16 : Shape := ⟨1, ![16]⟩

abbrev nBuf : Table → Nat
  | .hbm => 95
  | .local .tc .vmem => 10
  | .local .scVector .vmem => 10
  | _ => 0

abbrev bufTy : (tb : Table) → Fin (nBuf tb) → BufTy
  | .hbm, ⟨0, _⟩ => ⟨S4x192x224x224, .f32⟩
  | .hbm, ⟨1, _⟩ => ⟨S4x6, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S223, .f32⟩
  | .hbm, ⟨10, _⟩ => ⟨S_, .f32⟩
  | .hbm, ⟨11, _⟩ => ⟨S223, .f32⟩
  | .hbm, ⟨12, _⟩ => ⟨S223, .f32⟩
  | .hbm, ⟨13, _⟩ => ⟨S1, .f32⟩
  | .hbm, ⟨14, _⟩ => ⟨S_, .f32⟩
  | .hbm, ⟨15, _⟩ => ⟨S223, .f32⟩
  | .hbm, ⟨16, _⟩ => ⟨S223, .f32⟩
  | .hbm, ⟨17, _⟩ => ⟨S223, .f32⟩
  | .hbm, ⟨18, _⟩ => ⟨S223, .f32⟩
  | .hbm, ⟨19, _⟩ => ⟨S1, .f32⟩
  | .hbm, ⟨20, _⟩ => ⟨S223, .f32⟩
  | .hbm, ⟨21, _⟩ => ⟨S223, .f32⟩
  | .hbm, ⟨22, _⟩ => ⟨S223, .f32⟩
  | .hbm, ⟨23, _⟩ => ⟨S1, .f32⟩
  | .hbm, ⟨24, _⟩ => ⟨S224, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S223, .f32⟩
  | .hbm, ⟨33, _⟩ => ⟨S_, .f32⟩
  | .hbm, ⟨34, _⟩ => ⟨S223, .f32⟩
  | .hbm, ⟨35, _⟩ => ⟨S223, .f32⟩
  | .hbm, ⟨36, _⟩ => ⟨S1, .f32⟩
  | .hbm, ⟨37, _⟩ => ⟨S_, .f32⟩
  | .hbm, ⟨38, _⟩ => ⟨S223, .f32⟩
  | .hbm, ⟨39, _⟩ => ⟨S223, .f32⟩
  | .hbm, ⟨40, _⟩ => ⟨S223, .f32⟩
  | .hbm, ⟨41, _⟩ => ⟨S223, .f32⟩
  | .hbm, ⟨42, _⟩ => ⟨S1, .f32⟩
  | .hbm, ⟨43, _⟩ => ⟨S223, .f32⟩
  | .hbm, ⟨44, _⟩ => ⟨S223, .f32⟩
  | .hbm, ⟨45, _⟩ => ⟨S223, .f32⟩
  | .hbm, ⟨46, _⟩ => ⟨S1, .f32⟩
  | .hbm, ⟨47, _⟩ => ⟨S224, .f32⟩
  | .hbm, ⟨48, _⟩ => ⟨S1x224, .f32⟩
  | .hbm, ⟨49, _⟩ => ⟨S1x1x1x224, .f32⟩
  | .hbm, ⟨50, _⟩ => ⟨S224x1x1x224, .f32⟩
  | .hbm, ⟨51, _⟩ => ⟨S224x224, .f32⟩
  | .hbm, ⟨52, _⟩ => ⟨S224x1, .f32⟩
  | .hbm, ⟨53, _⟩ => ⟨S1x224x1x1, .f32⟩
  | .hbm, ⟨54, _⟩ => ⟨S1x224x224x1, .f32⟩
  | .hbm, ⟨55, _⟩ => ⟨S224x224, .f32⟩
  | .hbm, ⟨56, _⟩ => ⟨S50176, .f32⟩
  | .hbm, ⟨57, _⟩ => ⟨S50176, .f32⟩
  | .hbm, ⟨58, _⟩ => ⟨S_, .f32⟩
  | .hbm, ⟨59, _⟩ => ⟨S50176, .f32⟩
  | .hbm, ⟨60, _⟩ => ⟨S1x50176, .f32⟩
  | .hbm, ⟨61, _⟩ => ⟨S1x50176, .f32⟩
  | .hbm, ⟨62, _⟩ => ⟨S1x50176, .f32⟩
  | .hbm, ⟨63, _⟩ => ⟨S3x50176, .f32⟩
  | .hbm, ⟨64, _⟩ => ⟨S4x2x3, .f32⟩
  | .hbm, ⟨65, _⟩ => ⟨S4x2x3x1, .f32⟩
  | .hbm, ⟨66, _⟩ => ⟨S1x1x3x50176, .f32⟩
  | .hbm, ⟨67, _⟩ => ⟨S4x2x3x50176, .f32⟩
  | .hbm, ⟨68, _⟩ => ⟨S4x2x3x50176, .f32⟩
  | .hbm, ⟨69, _⟩ => ⟨S4x2x3x50176, .f32⟩
  | .hbm, ⟨70, _⟩ => ⟨S_, .f32⟩
  | .hbm, ⟨71, _⟩ => ⟨S4x2x50176, .f32⟩
  | .hbm, ⟨72, _⟩ => ⟨S4x1x50176, .f32⟩
  | .hbm, ⟨73, _⟩ => ⟨S4x50176, .f32⟩
  | .hbm, ⟨74, _⟩ => ⟨S4x1x50176, .f32⟩
  | .hbm, ⟨75, _⟩ => ⟨S4x50176, .f32⟩
  | .hbm, ⟨76, _⟩ => ⟨S4x50176, .i32⟩
  | .hbm, ⟨77, _⟩ => ⟨S4x50176, .i32⟩
  | .hbm, ⟨78, _⟩ => ⟨S4x50176, .i32⟩
  | .hbm, ⟨79, _⟩ => ⟨S4x50176, .i32⟩
  | .hbm, ⟨80, _⟩ => ⟨S4x50176, .f32⟩
  | .hbm, ⟨81, _⟩ => ⟨S4x50176, .f32⟩
  | .hbm, ⟨82, _⟩ => ⟨S4x50176, .f32⟩
  | .hbm, ⟨83, _⟩ => ⟨S4x50176, .f32⟩
  | .hbm, ⟨84, _⟩ => ⟨S200704, .i32⟩
  | .hbm, ⟨85, _⟩ => ⟨S200704, .i32⟩
  | .hbm, ⟨86, _⟩ => ⟨S200704, .i32⟩
  | .hbm, ⟨87, _⟩ => ⟨S200704, .i32⟩
  | .hbm, ⟨88, _⟩ => ⟨S200704, .f32⟩
  | .hbm, ⟨89, _⟩ => ⟨S200704, .f32⟩
  | .hbm, ⟨90, _⟩ => ⟨S200704, .f32⟩
  | .hbm, ⟨91, _⟩ => ⟨S200704, .f32⟩
  | .hbm, ⟨92, _⟩ => ⟨S38535168, .f32⟩
  | .hbm, ⟨93, _⟩ => ⟨S38535168, .f32⟩
  | .hbm, ⟨94, _⟩ => ⟨S4x192x224x224, .f32⟩
  | .local .tc .vmem, ⟨0, _⟩ => ⟨S4x50176, .f32⟩
  | .local .tc .vmem, ⟨1, _⟩ => ⟨S4x50176, .f32⟩
  | .local .tc .vmem, ⟨2, _⟩ => ⟨S4x50176, .i32⟩
  | .local .tc .vmem, ⟨3, _⟩ => ⟨S4x50176, .i32⟩
  | .local .tc .vmem, ⟨4, _⟩ => ⟨S4x50176, .i32⟩
  | .local .tc .vmem, ⟨5, _⟩ => ⟨S4x50176, .i32⟩
  | .local .tc .vmem, ⟨6, _⟩ => ⟨S4x50176, .f32⟩
  | .local .tc .vmem, ⟨7, _⟩ => ⟨S4x50176, .f32⟩
  | .local .tc .vmem, ⟨8, _⟩ => ⟨S4x50176, .f32⟩
  | .local .tc .vmem, ⟨9, _⟩ => ⟨S4x50176, .f32⟩
  | .local .scVector .vmem, ⟨0, _⟩ => ⟨S50176, .f32⟩
  | .local .scVector .vmem, ⟨1, _⟩ => ⟨S3136, .i32⟩
  | .local .scVector .vmem, ⟨2, _⟩ => ⟨S3136, .i32⟩
  | .local .scVector .vmem, ⟨3, _⟩ => ⟨S3136, .i32⟩
  | .local .scVector .vmem, ⟨4, _⟩ => ⟨S3136, .i32⟩
  | .local .scVector .vmem, ⟨5, _⟩ => ⟨S3136, .f32⟩
  | .local .scVector .vmem, ⟨6, _⟩ => ⟨S3136, .f32⟩
  | .local .scVector .vmem, ⟨7, _⟩ => ⟨S3136, .f32⟩
  | .local .scVector .vmem, ⟨8, _⟩ => ⟨S3136, .f32⟩
  | .local .scVector .vmem, ⟨9, _⟩ => ⟨S3136, .f32⟩
  | _, _ => ⟨S4x192x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_cst : Ref sig .tc := ⟨.hbm, 30, rfl⟩
abbrev main_call1_v3 : Ref sig .tc := ⟨.hbm, 31, rfl⟩
abbrev main_call1_v4 : Ref sig .tc := ⟨.hbm, 32, rfl⟩
abbrev main_call1_cst_0 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_cst_1 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_v15 : Ref sig .tc := ⟨.hbm, 45, rfl⟩
abbrev main_call1_v16 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst_3 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_4 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28_0 : Ref sig .tc := ⟨.hbm, 76, rfl⟩
abbrev main_v28_1 : Ref sig .tc := ⟨.hbm, 77, rfl⟩
abbrev main_v28_2 : Ref sig .tc := ⟨.hbm, 78, rfl⟩
abbrev main_v28_3 : Ref sig .tc := ⟨.hbm, 79, rfl⟩
abbrev main_v28_4 : Ref sig .tc := ⟨.hbm, 80, rfl⟩
abbrev main_v28_5 : Ref sig .tc := ⟨.hbm, 81, rfl⟩
abbrev main_v28_6 : Ref sig .tc := ⟨.hbm, 82, rfl⟩
abbrev main_v28_7 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v37_scv : Ref sig .scVector := ⟨.hbm, 92, rfl⟩
abbrev main_v29_scv : Ref sig .scVector := ⟨.hbm, 84, rfl⟩
abbrev main_v30_scv : Ref sig .scVector := ⟨.hbm, 85, rfl⟩
abbrev main_v31_scv : Ref sig .scVector := ⟨.hbm, 86, rfl⟩
abbrev main_v32_scv : Ref sig .scVector := ⟨.hbm, 87, rfl⟩
abbrev main_v33_scv : Ref sig .scVector := ⟨.hbm, 88, rfl⟩
abbrev main_v34_scv : Ref sig .scVector := ⟨.hbm, 89, rfl⟩
abbrev main_v35_scv : Ref sig .scVector := ⟨.hbm, 90, rfl⟩
abbrev main_v36_scv : Ref sig .scVector := ⟨.hbm, 91, rfl⟩
abbrev main_v38_scv : Ref sig .scVector := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4x50176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x50176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x50176 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x50176 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x50176 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x50176 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x50176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x50176 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x50176 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x50176 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c24_i32 : BitVec 32 := 24#32
  let v2 : BitVec 32 := Scalar.addi c0_i32_0 c24_i32
  let c1_i32 : BitVec 32 := 1#32
  ⟨c0_i32_0, v2, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg23 : BitVec 32 := Scf.iv c0_i32_0 c1_i32 k1_t1
  let v4 : BitVec 32 := Scalar.addi v3 arg23
  let c50176_i32 : BitVec 32 := 50176#32
  let v22 : BitVec 32 := Scalar.muli v4 c50176_i32
  ![v22.toNat]
@[reducible] def k1_t2_loop : Scf.Loop 32 :=
  let c0_i32_10 : BitVec 32 := 0#32
  let c16_i32 : BitVec 32 := 16#32
  let v23 : BitVec 32 := Scalar.addi c0_i32_10 c16_i32
  let c1_i32_11 : BitVec 32 := 1#32
  ⟨c0_i32_10, v23, c1_i32_11⟩
def k1_off2 (i : grid1.Coords) (k1_t1 : Fin k1_t1_loop.trips) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg23 : BitVec 32 := Scf.iv c0_i32_0 c1_i32 k1_t1
  let v4 : BitVec 32 := Scalar.addi v3 arg23
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c192_i32 : BitVec 32 := 192#32
  let c0_i32_5 : BitVec 32 := 0#32
  let v11 : BitVec 1 := Scalar.cmpi .sgt c192_i32 c0_i32_5
  let v12 : BitVec 32 := Scalar.extui v11
  let c0_i32_6 : BitVec 32 := 0#32
  let v13 : BitVec 1 := Scalar.cmpi .slt c192_i32 c0_i32_6
  let v14 : BitVec 32 := Scalar.extui v13
  let v15 : BitVec 32 := Scalar.subi v12 v14
  let v16 : BitVec 1 := Scalar.cmpi .ne v10 v15
  let v17 : BitVec 32 := Scalar.remsi v4 c192_i32
  let c0_i32_7 : BitVec 32 := 0#32
  let v18 : BitVec 1 := Scalar.cmpi .ne v17 c0_i32_7
  let v19 : BitVec 1 := Scalar.andi v16 v18
  let v5 : BitVec 32 := Scalar.divsi v4 c192_i32
  let c1_i32_8 : BitVec 32 := 1#32
  let v20 : BitVec 32 := Scalar.subi v5 c1_i32_8
  let v21 : BitVec 32 := Scalar.select v19 v20 v5
  let c50176_i32_13 : BitVec 32 := 50176#32
  let v24 : BitVec 32 := Scalar.muli v21 c50176_i32_13
  let c0_i32_10 : BitVec 32 := 0#32
  let c1_i32_11 : BitVec 32 := 1#32
  let arg24 : BitVec 32 := Scf.iv c0_i32_10 c1_i32_11 k1_t2
  let c3136_i32 : BitVec 32 := 3136#32
  let v25 : BitVec 32 := Scalar.muli arg24 c3136_i32
  let v26 : BitVec 32 := Scalar.addi v24 v25
  ![v26.toNat]
@[reducible] def k1_t3_loop : Scf.Loop 32 :=
  let c0_i32_15 : BitVec 32 := 0#32
  let c196_i32 : BitVec 32 := 196#32
  let v59 : BitVec 32 := Scalar.addi c0_i32_15 c196_i32
  let c1_i32_16 : BitVec 32 := 1#32
  ⟨c0_i32_15, v59, c1_i32_16⟩
def k1_off3 (k1_t3 : Fin k1_t3_loop.trips) : Fin 1 → Nat :=
  let c0_i32_15 : BitVec 32 := 0#32
  let c1_i32_16 : BitVec 32 := 1#32
  let arg25 : BitVec 32 := Scf.iv c0_i32_15 c1_i32_16 k1_t3
  let c16_i32_20 : BitVec 32 := 16#32
  let v63 : BitVec 32 := Scalar.muli arg25 c16_i32_20
  let v64 : Index := Scalar.indexCast v63
  ![v64.toNat]

def k1_chk1 (v65 : IVec S16 32) : Prop :=
  (∀ a x, ((![v65] : Fin 1 → IVec S16 32) a x).toNat < S50176.size a)
theorem k1_idx1_inb : ∀ (v65 : IVec S16 32) (k1_hw1 : k1_chk1 v65), ∀ a x, ((![v65] : Fin 1 → IVec S16 32) a x).toNat < S50176.size a := fun v65 k1_hw1 => k1_hw1
def k1_off4 (k1_t3 : Fin k1_t3_loop.trips) : Fin 1 → Nat :=
  let c0_i32_15 : BitVec 32 := 0#32
  let c1_i32_16 : BitVec 32 := 1#32
  let arg25 : BitVec 32 := Scf.iv c0_i32_15 c1_i32_16 k1_t3
  let c16_i32_20 : BitVec 32 := 16#32
  let v63 : BitVec 32 := Scalar.muli arg25 c16_i32_20
  let v67 : Index := Scalar.indexCast v63
  ![v67.toNat]

def k1_chk2 (v68 : IVec S16 32) : Prop :=
  (∀ a x, ((![v68] : Fin 1 → IVec S16 32) a x).toNat < S50176.size a)
theorem k1_idx2_inb : ∀ (v68 : IVec S16 32) (k1_hw2 : k1_chk2 v68), ∀ a x, ((![v68] : Fin 1 → IVec S16 32) a x).toNat < S50176.size a := fun v68 k1_hw2 => k1_hw2
def k1_off5 (k1_t3 : Fin k1_t3_loop.trips) : Fin 1 → Nat :=
  let c0_i32_15 : BitVec 32 := 0#32
  let c1_i32_16 : BitVec 32 := 1#32
  let arg25 : BitVec 32 := Scf.iv c0_i32_15 c1_i32_16 k1_t3
  let c16_i32_20 : BitVec 32 := 16#32
  let v63 : BitVec 32 := Scalar.muli arg25 c16_i32_20
  let v70 : Index := Scalar.indexCast v63
  ![v70.toNat]

def k1_chk3 (v71 : IVec S16 32) : Prop :=
  (∀ a x, ((![v71] : Fin 1 → IVec S16 32) a x).toNat < S50176.size a)
theorem k1_idx3_inb : ∀ (v71 : IVec S16 32) (k1_hw3 : k1_chk3 v71), ∀ a x, ((![v71] : Fin 1 → IVec S16 32) a x).toNat < S50176.size a := fun v71 k1_hw3 => k1_hw3
def k1_off6 (k1_t3 : Fin k1_t3_loop.trips) : Fin 1 → Nat :=
  let c0_i32_15 : BitVec 32 := 0#32
  let c1_i32_16 : BitVec 32 := 1#32
  let arg25 : BitVec 32 := Scf.iv c0_i32_15 c1_i32_16 k1_t3
  let c16_i32_20 : BitVec 32 := 16#32
  let v63 : BitVec 32 := Scalar.muli arg25 c16_i32_20
  let v73 : Index := Scalar.indexCast v63
  ![v73.toNat]

def k1_chk4 (v74 : IVec S16 32) : Prop :=
  (∀ a x, ((![v74] : Fin 1 → IVec S16 32) a x).toNat < S50176.size a)
theorem k1_idx4_inb : ∀ (v74 : IVec S16 32) (k1_hw4 : k1_chk4 v74), ∀ a x, ((![v74] : Fin 1 → IVec S16 32) a x).toNat < S50176.size a := fun v74 k1_hw4 => k1_hw4
def k1_off7 (k1_t3 : Fin k1_t3_loop.trips) : Fin 1 → Nat :=
  let c0_i32_15 : BitVec 32 := 0#32
  let c1_i32_16 : BitVec 32 := 1#32
  let arg25 : BitVec 32 := Scf.iv c0_i32_15 c1_i32_16 k1_t3
  let c16_i32_20 : BitVec 32 := 16#32
  let v63 : BitVec 32 := Scalar.muli arg25 c16_i32_20
  let v76 : Index := Scalar.indexCast v63
  ![v76.toNat]
def k1_off8 (i : grid1.Coords) (k1_t1 : Fin k1_t1_loop.trips) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg23 : BitVec 32 := Scf.iv c0_i32_0 c1_i32 k1_t1
  let v4 : BitVec 32 := Scalar.addi v3 arg23
  let c50176_i32_18 : BitVec 32 := 50176#32
  let v60 : BitVec 32 := Scalar.muli v4 c50176_i32_18
  let c0_i32_10 : BitVec 32 := 0#32
  let c1_i32_11 : BitVec 32 := 1#32
  let arg24 : BitVec 32 := Scf.iv c0_i32_10 c1_i32_11 k1_t2
  let c3136_i32_19 : BitVec 32 := 3136#32
  let v61 : BitVec 32 := Scalar.muli arg24 c3136_i32_19
  let v62 : BitVec 32 := Scalar.addi v60 v61
  ![v62.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x192x224x224 : Shape := ⟨4, ![4, 192, 224, 224]⟩
abbrev S4x6 : Shape := ⟨2, ![4, 6]⟩
abbrev S_ : Shape := ⟨0, ![]⟩
abbrev S223 : Shape := ⟨1, ![223]⟩
abbrev S1 : Shape := ⟨1, ![1]⟩
abbrev S224 : Shape := ⟨1, ![224]⟩
abbrev S1x224 : Shape := ⟨2, ![1, 224]⟩
abbrev S1x1x1x224 : Shape := ⟨4, ![1, 1, 1, 224]⟩
abbrev S224x1x1x224 : Shape := ⟨4, ![224, 1, 1, 224]⟩
abbrev S224x224 : Shape := ⟨2, ![224, 224]⟩
abbrev S224x1 : Shape := ⟨2, ![224, 1]⟩
abbrev S1x224x1x1 : Shape := ⟨4, ![1, 224, 1, 1]⟩
abbrev S1x224x224x1 : Shape := ⟨4, ![1, 224, 224, 1]⟩
abbrev S50176 : Shape := ⟨1, ![50176]⟩
abbrev S1x50176 : Shape := ⟨2, ![1, 50176]⟩
abbrev S3x50176 : Shape := ⟨2, ![3, 50176]⟩
abbrev S4x2x3 : Shape := ⟨3, ![4, 2, 3]⟩
abbrev S4x2x50176 : Shape := ⟨3, ![4, 2, 50176]⟩
abbrev S4x1x50176 : Shape := ⟨3, ![4, 1, 50176]⟩
abbrev S4x50176 : Shape := ⟨2, ![4, 50176]⟩
abbrev S200704 : Shape := ⟨1, ![200704]⟩
abbrev S4x224x224x192 : Shape := ⟨4, ![4, 224, 224, 192]⟩
abbrev S4 : Shape := ⟨1, ![4]⟩
abbrev S200704x192 : Shape := ⟨2, ![200704, 192]⟩
abbrev S200704x1 : Shape := ⟨2, ![200704, 1]⟩
abbrev S1x1 : Shape := ⟨2, ![1, 1]⟩

abbrev nBuf : Space → Nat
  | .hbm => 277
  | .vmem => 0
  | .smem => 0
  | _ => 0

abbrev hbmTy0_0 (i : Nat) : BufTy := match i % 128 with
  | 0 => ⟨S4x192x224x224, .f32⟩
  | 1 => ⟨S4x6, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S223, .f32⟩
  | 10 => ⟨S_, .f32⟩
  | 11 => ⟨S223, .f32⟩
  | 12 => ⟨S223, .f32⟩
  | 13 => ⟨S1, .f32⟩
  | 14 => ⟨S_, .f32⟩
  | 15 => ⟨S223, .f32⟩
  | 16 => ⟨S223, .f32⟩
  | 17 => ⟨S223, .f32⟩
  | 18 => ⟨S223, .f32⟩
  | 19 => ⟨S1, .f32⟩
  | 20 => ⟨S223, .f32⟩
  | 21 => ⟨S223, .f32⟩
  | 22 => ⟨S223, .f32⟩
  | 23 => ⟨S1, .f32⟩
  | 24 => ⟨S224, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S223, .f32⟩
  | 33 => ⟨S_, .f32⟩
  | 34 => ⟨S223, .f32⟩
  | 35 => ⟨S223, .f32⟩
  | 36 => ⟨S1, .f32⟩
  | 37 => ⟨S_, .f32⟩
  | 38 => ⟨S223, .f32⟩
  | 39 => ⟨S223, .f32⟩
  | 40 => ⟨S223, .f32⟩
  | 41 => ⟨S223, .f32⟩
  | 42 => ⟨S1, .f32⟩
  | 43 => ⟨S223, .f32⟩
  | 44 => ⟨S223, .f32⟩
  | 45 => ⟨S223, .f32⟩
  | 46 => ⟨S1, .f32⟩
  | 47 => ⟨S224, .f32⟩
  | 48 => ⟨S1x224, .f32⟩
  | 49 => ⟨S1x1x1x224, .f32⟩
  | 50 => ⟨S224x1x1x224, .f32⟩
  | 51 => ⟨S224x224, .f32⟩
  | 52 => ⟨S224x1, .f32⟩
  | 53 => ⟨S1x224x1x1, .f32⟩
  | 54 => ⟨S1x224x224x1, .f32⟩
  | 55 => ⟨S224x224, .f32⟩
  | 56 => ⟨S50176, .f32⟩
  | 57 => ⟨S50176, .f32⟩
  | 58 => ⟨S_, .f32⟩
  | 59 => ⟨S50176, .f32⟩
  | 60 => ⟨S1x50176, .f32⟩
  | 61 => ⟨S1x50176, .f32⟩
  | 62 => ⟨S1x50176, .f32⟩
  | 63 => ⟨S3x50176, .f32⟩
  | 64 => ⟨S4x2x3, .f32⟩
  | 65 => ⟨S4x2x50176, .f32⟩
  | 66 => ⟨S4x1x50176, .f32⟩
  | 67 => ⟨S4x50176, .f32⟩
  | 68 => ⟨S200704, .f32⟩
  | 69 => ⟨S4x1x50176, .f32⟩
  | 70 => ⟨S4x50176, .f32⟩
  | 71 => ⟨S200704, .f32⟩
  | 72 => ⟨S4x224x224x192, .f32⟩
  | 73 => ⟨S_, .f32⟩
  | 74 => ⟨S200704, .f32⟩
  | 75 => ⟨S200704, .f32⟩
  | 76 => ⟨S_, .f32⟩
  | 77 => ⟨S200704, .f32⟩
  | 78 => ⟨S200704, .f32⟩
  | 79 => ⟨S_, .f32⟩
  | 80 => ⟨S200704, .f32⟩
  | 81 => ⟨S200704, .f32⟩
  | 82 => ⟨S_, .f32⟩
  | 83 => ⟨S200704, .f32⟩
  | 84 => ⟨S200704, .f32⟩
  | 85 => ⟨S_, .f32⟩
  | 86 => ⟨S200704, .f32⟩
  | 87 => ⟨S200704, .f32⟩
  | 88 => ⟨S_, .f32⟩
  | 89 => ⟨S200704, .f32⟩
  | 90 => ⟨S200704, .f32⟩
  | 91 => ⟨S200704, .f32⟩
  | 92 => ⟨S200704, .i32⟩
  | 93 => ⟨S_, .i32⟩
  | 94 => ⟨S200704, .i32⟩
  | 95 => ⟨S200704, .i32⟩
  | 96 => ⟨S200704, .f32⟩
  | 97 => ⟨S200704, .i32⟩
  | 98 => ⟨S_, .i32⟩
  | 99 => ⟨S200704, .i32⟩
  | 100 => ⟨S200704, .i32⟩
  | 101 => ⟨S_, .i32⟩
  | 102 => ⟨S_, .i32⟩
  | 103 => ⟨S_, .i32⟩
  | 104 => ⟨S200704, .i32⟩
  | 105 => ⟨S200704, .i32⟩
  | 106 => ⟨S_, .i32⟩
  | 107 => ⟨S200704, .i32⟩
  | 108 => ⟨S200704, .i32⟩
  | 109 => ⟨S_, .i32⟩
  | 110 => ⟨S_, .i32⟩
  | 111 => ⟨S_, .i32⟩
  | 112 => ⟨S200704, .i32⟩
  | 113 => ⟨S200704, .i32⟩
  | 114 => ⟨S_, .i32⟩
  | 115 => ⟨S200704, .i32⟩
  | 116 => ⟨S200704, .i32⟩
  | 117 => ⟨S_, .i32⟩
  | 118 => ⟨S_, .i32⟩
  | 119 => ⟨S_, .i32⟩
  | 120 => ⟨S200704, .i32⟩
  | 121 => ⟨S200704, .i32⟩
  | 122 => ⟨S_, .i32⟩
  | 123 => ⟨S200704, .i32⟩
  | 124 => ⟨S200704, .i32⟩
  | 125 => ⟨S_, .i32⟩
  | 126 => ⟨S_, .i32⟩
  | 127 => ⟨S_, .i32⟩
  | _ => ⟨S4x192x224x224, .f32⟩

abbrev hbmTy0_1 (i : Nat) : BufTy := match i % 128 with
  | 0 => ⟨S200704, .i32⟩
  | 1 => ⟨S200704, .i32⟩
  | 2 => ⟨S_, .i32⟩
  | 3 => ⟨S200704, .i32⟩
  | 4 => ⟨S200704, .i32⟩
  | 5 => ⟨S4, .i32⟩
  | 6 => ⟨S_, .i32⟩
  | 7 => ⟨S4, .i32⟩
  | 8 => ⟨S4, .i32⟩
  | 9 => ⟨S4x50176, .i32⟩
  | 10 => ⟨S200704, .i32⟩
  | 11 => ⟨S_, .i32⟩
  | 12 => ⟨S200704, .i32⟩
  | 13 => ⟨S200704, .i32⟩
  | 14 => ⟨S200704, .i32⟩
  | 15 => ⟨S_, .i32⟩
  | 16 => ⟨S200704, .i32⟩
  | 17 => ⟨S200704, .i32⟩
  | 18 => ⟨S200704, .i32⟩
  | 19 => ⟨S200704, .i32⟩
  | 20 => ⟨S200704, .i32⟩
  | 21 => ⟨S200704, .i32⟩
  | 22 => ⟨S200704, .i32⟩
  | 23 => ⟨S200704x192, .f32⟩
  | 24 => ⟨S_, .i32⟩
  | 25 => ⟨S200704, .i32⟩
  | 26 => ⟨S200704, .i1⟩
  | 27 => ⟨S_, .i32⟩
  | 28 => ⟨S200704, .i32⟩
  | 29 => ⟨S200704, .i32⟩
  | 30 => ⟨S200704, .i32⟩
  | 31 => ⟨S200704x1, .i32⟩
  | 32 => ⟨S1, .i32⟩
  | 33 => ⟨S_, .i32⟩
  | 34 => ⟨S200704x1, .i32⟩
  | 35 => ⟨S200704x1, .i1⟩
  | 36 => ⟨S1x1, .i32⟩
  | 37 => ⟨S200704x1, .i32⟩
  | 38 => ⟨S200704x1, .i1⟩
  | 39 => ⟨S200704x1, .i1⟩
  | 40 => ⟨S_, .i1⟩
  | 41 => ⟨S200704, .i1⟩
  | 42 => ⟨S200704x192, .f32⟩
  | 43 => ⟨S200704x192, .i1⟩
  | 44 => ⟨S_, .f32⟩
  | 45 => ⟨S200704x192, .f32⟩
  | 46 => ⟨S200704x192, .f32⟩
  | 47 => ⟨S_, .i32⟩
  | 48 => ⟨S200704, .i32⟩
  | 49 => ⟨S200704, .i1⟩
  | 50 => ⟨S_, .i32⟩
  | 51 => ⟨S200704, .i32⟩
  | 52 => ⟨S200704, .i32⟩
  | 53 => ⟨S200704, .i32⟩
  | 54 => ⟨S200704x1, .i32⟩
  | 55 => ⟨S1, .i32⟩
  | 56 => ⟨S_, .i32⟩
  | 57 => ⟨S200704x1, .i32⟩
  | 58 => ⟨S200704x1, .i1⟩
  | 59 => ⟨S1x1, .i32⟩
  | 60 => ⟨S200704x1, .i32⟩
  | 61 => ⟨S200704x1, .i1⟩
  | 62 => ⟨S200704x1, .i1⟩
  | 63 => ⟨S_, .i1⟩
  | 64 => ⟨S200704, .i1⟩
  | 65 => ⟨S200704x192, .f32⟩
  | 66 => ⟨S200704x192, .i1⟩
  | 67 => ⟨S_, .f32⟩
  | 68 => ⟨S200704x192, .f32⟩
  | 69 => ⟨S200704x192, .f32⟩
  | 70 => ⟨S_, .i32⟩
  | 71 => ⟨S200704, .i32⟩
  | 72 => ⟨S200704, .i1⟩
  | 73 => ⟨S_, .i32⟩
  | 74 => ⟨S200704, .i32⟩
  | 75 => ⟨S200704, .i32⟩
  | 76 => ⟨S200704, .i32⟩
  | 77 => ⟨S200704x1, .i32⟩
  | 78 => ⟨S1, .i32⟩
  | 79 => ⟨S_, .i32⟩
  | 80 => ⟨S200704x1, .i32⟩
  | 81 => ⟨S200704x1, .i1⟩
  | 82 => ⟨S1x1, .i32⟩
  | 83 => ⟨S200704x1, .i32⟩
  | 84 => ⟨S200704x1, .i1⟩
  | 85 => ⟨S200704x1, .i1⟩
  | 86 => ⟨S_, .i1⟩
  | 87 => ⟨S200704, .i1⟩
  | 88 => ⟨S200704x192, .f32⟩
  | 89 => ⟨S200704x192, .i1⟩
  | 90 => ⟨S_, .f32⟩
  | 91 => ⟨S200704x192, .f32⟩
  | 92 => ⟨S200704x192, .f32⟩
  | 93 => ⟨S_, .i32⟩
  | 94 => ⟨S200704, .i32⟩
  | 95 => ⟨S200704, .i1⟩
  | 96 => ⟨S_, .i32⟩
  | 97 => ⟨S200704, .i32⟩
  | 98 => ⟨S200704, .i32⟩
  | 99 => ⟨S200704, .i32⟩
  | 100 => ⟨S200704x1, .i32⟩
  | 101 => ⟨S1, .i32⟩
  | 102 => ⟨S_, .i32⟩
  | 103 => ⟨S200704x1, .i32⟩
  | 104 => ⟨S200704x1, .i1⟩
  | 105 => ⟨S1x1, .i32⟩
  | 106 => ⟨S200704x1, .i32⟩
  | 107 => ⟨S200704x1, .i1⟩
  | 108 => ⟨S200704x1, .i1⟩
  | 109 => ⟨S_, .i1⟩
  | 110 => ⟨S200704, .i1⟩
  | 111 => ⟨S200704x192, .f32⟩
  | 112 => ⟨S200704x192, .i1⟩
  | 113 => ⟨S_, .f32⟩
  | 114 => ⟨S200704x192, .f32⟩
  | 115 => ⟨S200704x192, .f32⟩
  | 116 => ⟨S200704, .f32⟩
  | 117 => ⟨S200704, .f32⟩
  | 118 => ⟨S200704, .f32⟩
  | 119 => ⟨S200704, .f32⟩
  | 120 => ⟨S200704, .f32⟩
  | 121 => ⟨S200704, .f32⟩
  | 122 => ⟨S200704, .f32⟩
  | 123 => ⟨S200704x1, .f32⟩
  | 124 => ⟨S200704, .f32⟩
  | 125 => ⟨S200704, .f32⟩
  | 126 => ⟨S200704, .f32⟩
  | 127 => ⟨S200704x1, .f32⟩
  | _ => ⟨S4x192x224x224, .f32⟩

abbrev hbmTy0_2 (i : Nat) : BufTy := match i % 128 with
  | 0 => ⟨S200704, .f32⟩
  | 1 => ⟨S200704, .f32⟩
  | 2 => ⟨S200704, .f32⟩
  | 3 => ⟨S200704x1, .f32⟩
  | 4 => ⟨S200704, .f32⟩
  | 5 => ⟨S200704, .f32⟩
  | 6 => ⟨S200704, .f32⟩
  | 7 => ⟨S200704x1, .f32⟩
  | 8 => ⟨S200704x192, .f32⟩
  | 9 => ⟨S200704x192, .f32⟩
  | 10 => ⟨S200704x192, .f32⟩
  | 11 => ⟨S200704x192, .f32⟩
  | 12 => ⟨S200704x192, .f32⟩
  | 13 => ⟨S200704x192, .f32⟩
  | 14 => ⟨S200704x192, .f32⟩
  | 15 => ⟨S200704x192, .f32⟩
  | 16 => ⟨S200704x192, .f32⟩
  | 17 => ⟨S200704x192, .f32⟩
  | 18 => ⟨S200704x192, .f32⟩
  | 19 => ⟨S4x224x224x192, .f32⟩
  | 20 => ⟨S4x192x224x224, .f32⟩
  | _ => ⟨S4x192x224x224, .f32⟩

abbrev hbmTy (i : Nat) : BufTy := match i / 128 with
  | 0 => hbmTy0_0 i
  | 1 => hbmTy0_1 i
  | 2 => hbmTy0_2 i
  | _ => ⟨S4x192x224x224, .f32⟩

abbrev bufTy : (tb : Table) → Fin (tcTables nBuf tb) → BufTy
  | .hbm, ⟨i, _⟩ => hbmTy i
  | _, _ => ⟨S4x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_cst : Ref sig .tc := ⟨.hbm, 30, rfl⟩
abbrev main_call1_v3 : Ref sig .tc := ⟨.hbm, 31, rfl⟩
abbrev main_call1_v4 : Ref sig .tc := ⟨.hbm, 32, rfl⟩
abbrev main_call1_cst_0 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_cst_1 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_v15 : Ref sig .tc := ⟨.hbm, 45, rfl⟩
abbrev main_call1_v16 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst_3 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_4 : Ref sig .tc := ⟨.hbm, 73, rfl⟩
abbrev main_v26 : Ref sig .tc := ⟨.hbm, 74, rfl⟩
abbrev main_v27 : Ref sig .tc := ⟨.hbm, 75, rfl⟩
abbrev main_cst_5 : Ref sig .tc := ⟨.hbm, 76, rfl⟩
abbrev main_v28 : Ref sig .tc := ⟨.hbm, 77, rfl⟩
abbrev main_v29 : Ref sig .tc := ⟨.hbm, 78, rfl⟩
abbrev main_cst_6 : Ref sig .tc := ⟨.hbm, 79, rfl⟩
abbrev main_v30 : Ref sig .tc := ⟨.hbm, 80, rfl⟩
abbrev main_v31 : Ref sig .tc := ⟨.hbm, 81, rfl⟩
abbrev main_cst_7 : Ref sig .tc := ⟨.hbm, 82, rfl⟩
abbrev main_v32 : Ref sig .tc := ⟨.hbm, 83, rfl⟩
abbrev main_v33 : Ref sig .tc := ⟨.hbm, 84, rfl⟩
abbrev main_cst_8 : Ref sig .tc := ⟨.hbm, 85, rfl⟩
abbrev main_v34 : Ref sig .tc := ⟨.hbm, 86, rfl⟩
abbrev main_v35 : Ref sig .tc := ⟨.hbm, 87, rfl⟩
abbrev main_cst_9 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_c : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c_10 : Ref sig .tc := ⟨.hbm, 98, rfl⟩
abbrev main_v44 : Ref sig .tc := ⟨.hbm, 99, rfl⟩
abbrev main_v45 : Ref sig .tc := ⟨.hbm, 100, rfl⟩
abbrev main_c_11 : Ref sig .tc := ⟨.hbm, 101, rfl⟩
abbrev main_c_12 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v46 : Ref sig .tc := ⟨.hbm, 108, rfl⟩
abbrev main_c_13 : Ref sig .tc := ⟨.hbm, 109, rfl⟩
abbrev main_c_14 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_v47 : Ref sig .tc := ⟨.hbm, 116, rfl⟩
abbrev main_c_15 : Ref sig .tc := ⟨.hbm, 117, rfl⟩
abbrev main_c_16 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v48 : Ref sig .tc := ⟨.hbm, 124, rfl⟩
abbrev main_c_17 : Ref sig .tc := ⟨.hbm, 125, rfl⟩
abbrev main_c_18 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v49 : Ref sig .tc := ⟨.hbm, 132, rfl⟩
abbrev main_v50 : Ref sig .tc := ⟨.hbm, 133, rfl⟩
abbrev main_c_19 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_c_20 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_c_21 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_call6_c : Ref sig .tc := ⟨.hbm, 152, rfl⟩
abbrev main_call6_v0 : Ref sig .tc := ⟨.hbm, 153, rfl⟩
abbrev main_call6_v1 : Ref sig .tc := ⟨.hbm, 154, rfl⟩
abbrev main_call6_c_0 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_c_1 : Ref sig .tc := ⟨.hbm, 160, rfl⟩
abbrev main_call6_c_2 : Ref sig .tc := ⟨.hbm, 161, rfl⟩
abbrev main_call6_v6 : Ref sig .tc := ⟨.hbm, 162, rfl⟩
abbrev main_call6_v7 : Ref sig .tc := ⟨.hbm, 163, rfl⟩
abbrev main_call6_v8 : Ref sig .tc := ⟨.hbm, 164, rfl⟩
abbrev main_call6_v9 : Ref sig .tc := ⟨.hbm, 165, rfl⟩
abbrev main_call6_v10 : Ref sig .tc := ⟨.hbm, 166, rfl⟩
abbrev main_call6_v11 : Ref sig .tc := ⟨.hbm, 167, rfl⟩
abbrev main_call6_c_3 : Ref sig .tc := ⟨.hbm, 168, rfl⟩
abbrev main_call6_v12 : Ref sig .tc := ⟨.hbm, 169, rfl⟩
abbrev main_call6_v13 : Ref sig .tc := ⟨.hbm, 170, rfl⟩
abbrev main_call6_v14 : Ref sig .tc := ⟨.hbm, 171, rfl⟩
abbrev main_call6_cst : Ref sig .tc := ⟨.hbm, 172, rfl⟩
abbrev main_call6_v15 : Ref sig .tc := ⟨.hbm, 173, rfl⟩
abbrev main_v66 : Ref sig .tc := ⟨.hbm, 174, rfl⟩
abbrev main_call7_c : Ref sig .tc := ⟨.hbm, 175, rfl⟩
abbrev main_call7_v0 : Ref sig .tc := ⟨.hbm, 176, rfl⟩
abbrev main_call7_v1 : Ref sig .tc := ⟨.hbm, 177, rfl⟩
abbrev main_call7_c_0 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_c_1 : Ref sig .tc := ⟨.hbm, 183, rfl⟩
abbrev main_call7_c_2 : Ref sig .tc := ⟨.hbm, 184, rfl⟩
abbrev main_call7_v6 : Ref sig .tc := ⟨.hbm, 185, rfl⟩
abbrev main_call7_v7 : Ref sig .tc := ⟨.hbm, 186, rfl⟩
abbrev main_call7_v8 : Ref sig .tc := ⟨.hbm, 187, rfl⟩
abbrev main_call7_v9 : Ref sig .tc := ⟨.hbm, 188, rfl⟩
abbrev main_call7_v10 : Ref sig .tc := ⟨.hbm, 189, rfl⟩
abbrev main_call7_v11 : Ref sig .tc := ⟨.hbm, 190, rfl⟩
abbrev main_call7_c_3 : Ref sig .tc := ⟨.hbm, 191, rfl⟩
abbrev main_call7_v12 : Ref sig .tc := ⟨.hbm, 192, rfl⟩
abbrev main_call7_v13 : Ref sig .tc := ⟨.hbm, 193, rfl⟩
abbrev main_call7_v14 : Ref sig .tc := ⟨.hbm, 194, rfl⟩
abbrev main_call7_cst : Ref sig .tc := ⟨.hbm, 195, rfl⟩
abbrev main_call7_v15 : Ref sig .tc := ⟨.hbm, 196, rfl⟩
abbrev main_v67 : Ref sig .tc := ⟨.hbm, 197, rfl⟩
abbrev main_call8_c : Ref sig .tc := ⟨.hbm, 198, rfl⟩
abbrev main_call8_v0 : Ref sig .tc := ⟨.hbm, 199, rfl⟩
abbrev main_call8_v1 : Ref sig .tc := ⟨.hbm, 200, rfl⟩
abbrev main_call8_c_0 : Ref sig .tc := ⟨.hbm, 201, rfl⟩
abbrev main_call8_v2 : Ref sig .tc := ⟨.hbm, 202, rfl⟩
abbrev main_call8_v3 : Ref sig .tc := ⟨.hbm, 203, rfl⟩
abbrev main_call8_v4 : Ref sig .tc := ⟨.hbm, 204, rfl⟩
abbrev main_call8_v5 : Ref sig .tc := ⟨.hbm, 205, rfl⟩
abbrev main_call8_c_1 : Ref sig .tc := ⟨.hbm, 206, rfl⟩
abbrev main_call8_c_2 : Ref sig .tc := ⟨.hbm, 207, rfl⟩
abbrev main_call8_v6 : Ref sig .tc := ⟨.hbm, 208, rfl⟩
abbrev main_call8_v7 : Ref sig .tc := ⟨.hbm, 209, rfl⟩
abbrev main_call8_v8 : Ref sig .tc := ⟨.hbm, 210, rfl⟩
abbrev main_call8_v9 : Ref sig .tc := ⟨.hbm, 211, rfl⟩
abbrev main_call8_v10 : Ref sig .tc := ⟨.hbm, 212, rfl⟩
abbrev main_call8_v11 : Ref sig .tc := ⟨.hbm, 213, rfl⟩
abbrev main_call8_c_3 : Ref sig .tc := ⟨.hbm, 214, rfl⟩
abbrev main_call8_v12 : Ref sig .tc := ⟨.hbm, 215, rfl⟩
abbrev main_call8_v13 : Ref sig .tc := ⟨.hbm, 216, rfl⟩
abbrev main_call8_v14 : Ref sig .tc := ⟨.hbm, 217, rfl⟩
abbrev main_call8_cst : Ref sig .tc := ⟨.hbm, 218, rfl⟩
abbrev main_call8_v15 : Ref sig .tc := ⟨.hbm, 219, rfl⟩
abbrev main_v68 : Ref sig .tc := ⟨.hbm, 220, rfl⟩
abbrev main_call9_c : Ref sig .tc := ⟨.hbm, 221, rfl⟩
abbrev main_call9_v0 : Ref sig .tc := ⟨.hbm, 222, rfl⟩
abbrev main_call9_v1 : Ref sig .tc := ⟨.hbm, 223, rfl⟩
abbrev main_call9_c_0 : Ref sig .tc := ⟨.hbm, 224, rfl⟩
abbrev main_call9_v2 : Ref sig .tc := ⟨.hbm, 225, rfl⟩
abbrev main_call9_v3 : Ref sig .tc := ⟨.hbm, 226, rfl⟩
abbrev main_call9_v4 : Ref sig .tc := ⟨.hbm, 227, rfl⟩
abbrev main_call9_v5 : Ref sig .tc := ⟨.hbm, 228, rfl⟩
abbrev main_call9_c_1 : Ref sig .tc := ⟨.hbm, 229, rfl⟩
abbrev main_call9_c_2 : Ref sig .tc := ⟨.hbm, 230, rfl⟩
abbrev main_call9_v6 : Ref sig .tc := ⟨.hbm, 231, rfl⟩
abbrev main_call9_v7 : Ref sig .tc := ⟨.hbm, 232, rfl⟩
abbrev main_call9_v8 : Ref sig .tc := ⟨.hbm, 233, rfl⟩
abbrev main_call9_v9 : Ref sig .tc := ⟨.hbm, 234, rfl⟩
abbrev main_call9_v10 : Ref sig .tc := ⟨.hbm, 235, rfl⟩
abbrev main_call9_v11 : Ref sig .tc := ⟨.hbm, 236, rfl⟩
abbrev main_call9_c_3 : Ref sig .tc := ⟨.hbm, 237, rfl⟩
abbrev main_call9_v12 : Ref sig .tc := ⟨.hbm, 238, rfl⟩
abbrev main_call9_v13 : Ref sig .tc := ⟨.hbm, 239, rfl⟩
abbrev main_call9_v14 : Ref sig .tc := ⟨.hbm, 240, rfl⟩
abbrev main_call9_cst : Ref sig .tc := ⟨.hbm, 241, rfl⟩
abbrev main_call9_v15 : Ref sig .tc := ⟨.hbm, 242, rfl⟩
abbrev main_v69 : Ref sig .tc := ⟨.hbm, 243, rfl⟩
abbrev main_v70 : Ref sig .tc := ⟨.hbm, 244, rfl⟩
abbrev main_v71 : Ref sig .tc := ⟨.hbm, 245, rfl⟩
abbrev main_v72 : Ref sig .tc := ⟨.hbm, 246, rfl⟩
abbrev main_v73 : Ref sig .tc := ⟨.hbm, 247, rfl⟩
abbrev main_v74 : Ref sig .tc := ⟨.hbm, 248, rfl⟩
abbrev main_v75 : Ref sig .tc := ⟨.hbm, 249, rfl⟩
abbrev main_v76 : Ref sig .tc := ⟨.hbm, 250, rfl⟩
abbrev main_v77 : Ref sig .tc := ⟨.hbm, 251, rfl⟩
abbrev main_v78 : Ref sig .tc := ⟨.hbm, 252, rfl⟩
abbrev main_v79 : Ref sig .tc := ⟨.hbm, 253, rfl⟩
abbrev main_v80 : Ref sig .tc := ⟨.hbm, 254, rfl⟩
abbrev main_v81 : Ref sig .tc := ⟨.hbm, 255, rfl⟩
abbrev main_v82 : Ref sig .tc := ⟨.hbm, 256, rfl⟩
abbrev main_v83 : Ref sig .tc := ⟨.hbm, 257, rfl⟩
abbrev main_v84 : Ref sig .tc := ⟨.hbm, 258, rfl⟩
abbrev main_v85 : Ref sig .tc := ⟨.hbm, 259, rfl⟩
abbrev main_v86 : Ref sig .tc := ⟨.hbm, 260, rfl⟩
abbrev main_v87 : Ref sig .tc := ⟨.hbm, 261, rfl⟩
abbrev main_v88 : Ref sig .tc := ⟨.hbm, 262, rfl⟩
abbrev main_v89 : Ref sig .tc := ⟨.hbm, 263, rfl⟩
abbrev main_v90 : Ref sig .tc := ⟨.hbm, 264, rfl⟩
abbrev main_v91 : Ref sig .tc := ⟨.hbm, 265, rfl⟩
abbrev main_v92 : Ref sig .tc := ⟨.hbm, 266, rfl⟩
abbrev main_v93 : Ref sig .tc := ⟨.hbm, 267, rfl⟩
abbrev main_v94 : Ref sig .tc := ⟨.hbm, 268, rfl⟩
abbrev main_v95 : Ref sig .tc := ⟨.hbm, 269, rfl⟩
abbrev main_v96 : Ref sig .tc := ⟨.hbm, 270, rfl⟩
abbrev main_v97 : Ref sig .tc := ⟨.hbm, 271, rfl⟩
abbrev main_v98 : Ref sig .tc := ⟨.hbm, 272, rfl⟩
abbrev main_v99 : Ref sig .tc := ⟨.hbm, 273, rfl⟩
abbrev main_v100 : Ref sig .tc := ⟨.hbm, 274, rfl⟩
abbrev main_v101 : Ref sig .tc := ⟨.hbm, 275, rfl⟩
abbrev main_v102 : Ref sig .tc := ⟨.hbm, 276, rfl⟩

abbrev nD : Nat := 1
abbrev τ : Topo := Topo.v7x

variable {F : FTy → Type} [FloatOps F]
-- ==== Proof.KernelIdeal.Setup.lean ====
/-
  The program as the launch theorem sees it: its labels, its definitions, the resource algebra (the handshakes'
  rounds beside the transfers' counters), and the memrefs a SparseCore tile's body is run at.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The rounds of the staging cells of the pallas_call on the TensorCore. -/
abbrev UK : Type := URounds (GSem nD τ sig) Unit
abbrev UU : Type := UH × (UK × Counters)

local notation "𝕄" => MT nD τ sig (HIx 1) (Elt F) ℕ UU ℕ

/-- The handshakes' rounds, the left factor. -/
abbrev EH : Emb UH (MT nD τ sig (HIx 1) (Elt F) ℕ UU ℕ) := embL
/-- The staging cells' rounds. -/
abbrev EK : Emb UK (MT nD τ sig (HIx 1) (Elt F) ℕ UU ℕ) := (Emb.inl : Emb UK (UK × Counters)).trans embR
/-- The transfers' counters, found by instance in the right factor. -/
abbrev EC : UEmb Counters (MT nD τ sig (HIx 1) (Elt F) ℕ UU ℕ) := countersEmb (U := UU)

/-! ## The memrefs of a tile's body -/

abbrev mImg : Memref sig .scVector .hbm S38535168 .f32 := Memref.whole main_v37_scv
abbrev mIa : Memref sig .scVector .hbm S200704 .i32 := Memref.whole main_v29_scv
abbrev mIb : Memref sig .scVector .hbm S200704 .i32 := Memref.whole main_v30_scv
abbrev mIc : Memref sig .scVector .hbm S200704 .i32 := Memref.whole main_v31_scv
abbrev mId : Memref sig .scVector .hbm S200704 .i32 := Memref.whole main_v32_scv
abbrev mWa : Memref sig .scVector .hbm S200704 .f32 := Memref.whole main_v33_scv
abbrev mWb : Memref sig .scVector .hbm S200704 .f32 := Memref.whole main_v34_scv
abbrev mWc : Memref sig .scVector .hbm S200704 .f32 := Memref.whole main_v35_scv
abbrev mWd : Memref sig .scVector .hbm S200704 .f32 := Memref.whole main_v36_scv
abbrev mOut : Memref sig .scVector .hbm S38535168 .f32 := Memref.whole main_v38_scv
abbrev sP : Memref sig .scVector .vmem S50176 .f32 := Memref.whole cc1_scratch0
abbrev sIa : Memref sig .scVector .vmem S3136 .i32 := Memref.whole cc1_scratch1
abbrev sIb : Memref sig .scVector .vmem S3136 .i32 := Memref.whole cc1_scratch2
abbrev sIc : Memref sig .scVector .vmem S3136 .i32 := Memref.whole cc1_scratch3
abbrev sId : Memref sig .scVector .vmem S3136 .i32 := Memref.whole cc1_scratch4
abbrev sWa : Memref sig .scVector .vmem S3136 .f32 := Memref.whole cc1_scratch5
abbrev sWb : Memref sig .scVector .vmem S3136 .f32 := Memref.whole cc1_scratch6
abbrev sWc : Memref sig .scVector .vmem S3136 .f32 := Memref.whole cc1_scratch7
abbrev sWd : Memref sig .scVector .vmem S3136 .f32 := Memref.whole cc1_scratch8
abbrev sO : Memref sig .scVector .vmem S3136 .f32 := Memref.whole cc1_scratch9

/-- The tile `L` names: its SparseCore and its place in it. -/
abbrev cV (L : grid1.Coords) : Fin τ.nSC := (L 0).castLE hcore1
abbrev jV (L : grid1.Coords) : Fin τ.nSub := (L 1).castLE hsub1
/-- The thread of the tile `L` names. -/
abbrev thr (d : Dev nD) (L : grid1.Coords) : Thread nD τ := V d (cV L) (jV L)

end Cert.Proof.KernelIdeal
-- ==== Proof.KernelIdeal.Host.lean ====
/-
  The straight lines of @main around its two calls, as lists of operations: @main is these lists in order with the calls
  between them; which buffers each list touches and writes; and what the first lists leave in the two coordinate arrays.
-/
module

public import proofs.«01_k».proof.Proof.KernelIdeal.Setup
public import Idealize.ShloMosaic.Lib.StableHlo.Run
public import Idealize.ShloMosaic.Lib.Pipeline.Frame

@[expose] public section

noncomputable section

namespace Cert.Proof.KernelIdeal

open Cert.KernelIdeal Cert.KernelIdeal.Gen Idealize.ShloMosaic Idealize.ShloMosaic.TcCoe Idealize.SL.Sem Idealize.ShloMosaic.StableHlo

variable {F : FTy → Type} [FloatOps F]

/-- The concatenation of the three rows of the grid. -/
def fn_main_v16 (u0 u1 u2 : Vec F S1x50176 .f32) : Vec F S3x50176 .f32 :=
  (concatenate S3x50176 0 [⟨S1x50176, (u0 : (⟨S1x50176, .f32⟩ : BufTy).Contents (Elt F))⟩, ⟨S1x50176, (u1 : (⟨S1x50176, .f32⟩ : BufTy).Contents (Elt F))⟩, ⟨S1x50176, (u2 : (⟨S1x50176, .f32⟩ : BufTy).Contents (Elt F))⟩] concatenates_S1x50176_S1x50176_S1x50176_S3x50176_d0 : (⟨S3x50176, .f32⟩ : BufTy).Contents (Elt F))

/-- The concatenation at the end of `linspace`. -/
def fn_main_v0 (a : Vec F S223 .f32) (b : Vec F S1 .f32) : Vec F S224 .f32 :=
  concatenate S224 0 [⟨S223, a⟩, ⟨S1, b⟩] concatenates_S223_S1_S224_d0

/-- The first `linspace`: the column coordinates. -/
abbrev preA : List (HloOp τ sig (Elt F)) :=
  [ nullary main_cst (constant S_ .f32 0xBF800000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_0) (TRef.of (T := ⟨S_, .f32⟩) main_call0_v1) id,
    TRef.binary (TRef.of (T := ⟨S_, .f32⟩) main_call0_v1) (TRef.of (T := ⟨S_, .f32⟩) main_call0_v0) (TRef.of (T := ⟨S_, .f32⟩) main_call0_v2) subf,
    TRef.nullary (TRef.of (T := ⟨S_, .f32⟩) main_call0_cst) (constant S_ .f32 0x435F0000#32),
    TRef.binary (TRef.of (T := ⟨S_, .f32⟩) main_call0_v2) (TRef.of (T := ⟨S_, .f32⟩) main_call0_cst) (TRef.of (T := ⟨S_, .f32⟩) main_call0_v3) Host.divf,
    TRef.nullary (TRef.of (T := ⟨S223, .f32⟩) main_call0_v4) (sitofp .f32 (iotaInDim S223 32 0)),
    TRef.nullary (TRef.of (T := ⟨S_, .f32⟩) main_call0_cst_0) (constant S_ .f32 0x435F0000#32),
    TRef.unary (TRef.of (T := ⟨S_, .f32⟩) main_call0_cst_0) (TRef.of (T := ⟨S223, .f32⟩) main_call0_v5) (broadcastInDim S223 ![] bcast_S_S223),
    TRef.binary (TRef.of (T := ⟨S223, .f32⟩) main_call0_v4) (TRef.of (T := ⟨S223, .f32⟩) main_call0_v5) (TRef.of (T := ⟨S223, .f32⟩) main_call0_v6) Host.divf,
    TRef.reshape (TRef.of (T := ⟨S_, .f32⟩) main_call0_v0) (TRef.of (T := ⟨S1, .f32⟩) main_call0_v7) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S223, .f32⟩) main_call0_v8) (broadcastInDim S223 ![] bcast_S_S223),
    TRef.binary (TRef.of (T := ⟨S223, .f32⟩) main_call0_v8) (TRef.of (T := ⟨S223, .f32⟩) main_call0_v6) (TRef.of (T := ⟨S223, .f32⟩) main_call0_v9) subf,
    TRef.unary (TRef.of (T := ⟨S1, .f32⟩) main_call0_v7) (TRef.of (T := ⟨S223, .f32⟩) main_call0_v10) (broadcastInDim S223 ![0] bcast_S1_S223_0),
    TRef.binary (TRef.of (T := ⟨S223, .f32⟩) main_call0_v10) (TRef.of (T := ⟨S223, .f32⟩) main_call0_v9) (TRef.of (T := ⟨S223, .f32⟩) main_call0_v11) mulf,
    TRef.reshape (TRef.of (T := ⟨S_, .f32⟩) main_call0_v1) (TRef.of (T := ⟨S1, .f32⟩) main_call0_v12) (rfl : (.f32 : EltTy) = .f32) shapeCasts_S_S1,
    TRef.unary (TRef.of (T := ⟨S1, .f32⟩) main_call0_v12) (TRef.of (T := ⟨S223, .f32⟩) main_call0_v13) (broadcastInDim S223 ![0] bcast_S1_S223_0),
    TRef.binary (TRef.of (T := ⟨S223, .f32⟩) main_call0_v13) (TRef.of (T := ⟨S223, .f32⟩) main_call0_v6) (TRef.of (T := ⟨S223, .f32⟩) main_call0_v14) mulf,
    TRef.binary (TRef.of (T := ⟨S223, .f32⟩) main_call0_v11) (TRef.of (T := ⟨S223, .f32⟩) main_call0_v14) (TRef.of (T := ⟨S223, .f32⟩) main_call0_v15) addf,
    TRef.unary (TRef.of (T := ⟨S_, .f32⟩) main_call0_v1) (TRef.of (T := ⟨S1, .f32⟩) main_call0_v16) (broadcastInDim S1 ![] bcast_S_S1),
    TRef.binary (TRef.of (T := ⟨S223, .f32⟩) main_call0_v15) (TRef.of (T := ⟨S1, .f32⟩) main_call0_v16) (TRef.of (T := ⟨S224, .f32⟩) main_v0) (fn_main_v0 (F := F)) ]

/-- The second `linspace`: the row coordinates. -/
abbrev preB : List (HloOp τ sig (Elt F)) :=
  [ nullary main_cst_1 (constant S_ .f32 0xBF800000#32),
    nullary main_cst_2 (constant S_ .f32 0x3F800000#32),
    TRef.unary (TRef.of (T := ⟨S_, .f32⟩) main_cst_1) (TRef.of (T := ⟨S_, .f32⟩) main_call1_v0) id,
    TRef.unary (TRef.of (T := ⟨S_, .f32⟩) main_cst_2) (TRef.of (T := ⟨S_, .f32⟩) main_call1_v1) id,
    TRef.binary (TRef.of (T := ⟨S_, .f32⟩) main_call1_v1) (TRef.of (T := ⟨S_, .f32⟩) main_call1_v0) (TRef.of (T := ⟨S_, .f32⟩) main_call1_v2) subf,
    TRef.nullary (TRef.of (T := ⟨S_, .f32⟩) main_call1_cst) (constant S_ .f32 0x435F0000#32),
    TRef.binary (TRef.of (T := ⟨S_, .f32⟩) main_call1_v2) (TRef.of (T := ⟨S_, .f32⟩) main_call1_cst) (TRef.of (T := ⟨S_, .f32⟩) main_call1_v3) Host.divf,
    TRef.nullary (TRef.of (T := ⟨S223, .f32⟩) main_call1_v4) (sitofp .f32 (iotaInDim S223 32 0)),
    TRef.nullary (TRef.of (T := ⟨S_, .f32⟩) main_call1_cst_0) (constant S_ .f32 0x435F0000#32),
    TRef.unary (TRef.of (T := ⟨S_, .f32⟩) main_call1_cst_0) (TRef.of (T := ⟨S223, .f32⟩) main_call1_v5) (broadcastInDim S223 ![] bcast_S_S223),
    TRef.binary (TRef.of (T := ⟨S223, .f32⟩) main_call1_v4) (TRef.of (T := ⟨S223, .f32⟩) main_call1_v5) (TRef.of (T := ⟨S223, .f32⟩) main_call1_v6) Host.divf,
    TRef.reshape (TRef.of (T := ⟨S_, .f32⟩) main_call1_v0) (TRef.of (T := ⟨S1, .f32⟩) main_call1_v7) (rfl : (.f32 : EltTy) = .f32) shapeCasts_S_S1,
    TRef.nullary (TRef.of (T := ⟨S_, .f32⟩) main_call1_cst_1) (constant S_ .f32 0x3F800000#32),
    TRef.unary (TRef.of (T := ⟨S_, .f32⟩) main_call1_cst_1) (TRef.of (T := ⟨S223, .f32⟩) main_call1_v8) (broadcastInDim S223 ![] bcast_S_S223),
    TRef.binary (TRef.of (T := ⟨S223, .f32⟩) main_call1_v8) (TRef.of (T := ⟨S223, .f32⟩) main_call1_v6) (TRef.of (T := ⟨S223, .f32⟩) main_call1_v9) subf,
    TRef.unary (TRef.of (T := ⟨S1, .f32⟩) main_call1_v7) (TRef.of (T := ⟨S223, .f32⟩) main_call1_v10) (broadcastInDim S223 ![0] bcast_S1_S223_0),
    TRef.binary (TRef.of (T := ⟨S223, .f32⟩) main_call1_v10) (TRef.of (T := ⟨S223, .f32⟩) main_call1_v9) (TRef.of (T := ⟨S223, .f32⟩) main_call1_v11) mulf,
    TRef.reshape (TRef.of (T := ⟨S_, .f32⟩) main_call1_v1) (TRef.of (T := ⟨S1, .f32⟩) main_call1_v12) (rfl : (.f32 : EltTy) = .f32) shapeCasts_S_S1,
    TRef.unary (TRef.of (T := ⟨S1, .f32⟩) main_call1_v12) (TRef.of (T := ⟨S223, .f32⟩) main_call1_v13) (broadcastInDim S223 ![0] bcast_S1_S223_0),
    TRef.binary (TRef.of (T := ⟨S223, .f32⟩) main_call1_v13) (TRef.of (T := ⟨S223, .f32⟩) main_call1_v6) (TRef.of (T := ⟨S223, .f32⟩) main_call1_v14) mulf,
    TRef.binary (TRef.of (T := ⟨S223, .f32⟩) main_call1_v11) (TRef.of (T := ⟨S223, .f32⟩) main_call1_v14) (TRef.of (T := ⟨S223, .f32⟩) main_call1_v15) addf,
    TRef.unary (TRef.of (T := ⟨S_, .f32⟩) main_call1_v1) (TRef.of (T := ⟨S1, .f32⟩) main_call1_v16) (broadcastInDim S1 ![] bcast_S_S1),
    TRef.binary (TRef.of (T := ⟨S223, .f32⟩) main_call1_v15) (TRef.of (T := ⟨S1, .f32⟩) main_call1_v16) (TRef.of (T := ⟨S224, .f32⟩) main_v1) (fn_main_v0 (F := F)) ]

/-- The grid of homogeneous pixel coordinates. -/
abbrev preC : List (HloOp τ sig (Elt F)) :=
  [ unary main_v0 main_v2 (broadcastInDim S1x224 ![1] bcast_S224_S1x224_1 : (⟨S224, .f32⟩ : BufTy).Contents (Elt F) → (⟨S1x224, .f32⟩ : BufTy).Contents (Elt F)),
    reshape main_v2 main_v3 (rfl : (.f32 : EltTy) = .f32) shapeCasts_S1x224_S1x1x1x224,
    unary main_v3 main_v4 (broadcastInDim S224x1x1x224 ![0, 1, 2, 3] bcast_S1x1x1x224_S224x1x1x224_0_1_2_3 : (⟨S1x1x1x224, .f32⟩ : BufTy).Contents (Elt F) → (⟨S224x1x1x224, .f32⟩ : BufTy).Contents (Elt F)),
    reshape main_v4 main_v5 (rfl : (.f32 : EltTy) = .f32) shapeCasts_S224x1x1x224_S224x224,
    unary main_v1 main_v6 (broadcastInDim S224x1 ![0] bcast_S224_S224x1_0 : (⟨S224, .f32⟩ : BufTy).Contents (Elt F) → (⟨S224x1, .f32⟩ : BufTy).Contents (Elt F)),
    reshape main_v6 main_v7 (rfl : (.f32 : EltTy) = .f32) shapeCasts_S224x1_S1x224x1x1,
    unary main_v7 main_v8 (broadcastInDim S1x224x224x1 ![0, 1, 2, 3] bcast_S1x224x1x1_S1x224x224x1_0_1_2_3 : (⟨S1x224x1x1, .f32⟩ : BufTy).Contents (Elt F) → (⟨S1x224x224x1, .f32⟩ : BufTy).Contents (Elt F)),
    reshape main_v8 main_v9 (rfl : (.f32 : EltTy) = .f32) shapeCasts_S1x224x224x1_S224x224,
    reshape main_v5 main_v10 (rfl : (.f32 : EltTy) = .f32) shapeCasts_S224x224_S50176,
    reshape main_v9 main_v11 (rfl : (.f32 : EltTy) = .f32) shapeCasts_S224x224_S50176,
    nullary main_cst_3 (constant S_ .f32 0x3F800000#32),
    unary main_cst_3 main_v12 (broadcastInDim S50176 ![] bcast_S_S50176 : (⟨S_, .f32⟩ : BufTy).Contents (Elt F) → (⟨S50176, .f32⟩ : BufTy).Contents (Elt F)),
    unary main_v10 main_v13 (broadcastInDim S1x50176 ![1] bcast_S50176_S1x50176_1 : (⟨S50176, .f32⟩ : BufTy).Contents (Elt F) → (⟨S1x50176, .f32⟩ : BufTy).Contents (Elt F)),
    unary main_v11 main_v14 (broadcastInDim S1x50176 ![1] bcast_S50176_S1x50176_1 : (⟨S50176, .f32⟩ : BufTy).Contents (Elt F) → (⟨S1x50176, .f32⟩ : BufTy).Contents (Elt F)),
    unary main_v12 main_v15 (broadcastInDim S1x50176 ![1] bcast_S50176_S1x50176_1 : (⟨S50176, .f32⟩ : BufTy).Contents (Elt F) → (⟨S1x50176, .f32⟩ : BufTy).Contents (Elt F)),
    nary ![main_v13, main_v14, main_v15] main_v16 (fun u => fn_main_v16 (F := F) (u 0) (u 1) (u 2)) ]

/-- The affine map applied to the grid, split into its two rows. -/
abbrev preD : List (HloOp τ sig (Elt F)) :=
  [ reshape main_arg1 main_v17 (rfl : (.f32 : EltTy) = .f32) shapeCasts_S4x6_S4x2x3,
    unary main_v17 main_v18 (broadcastInDim S4x2x3x1 ![0, 1, 2] bcast_S4x2x3_S4x2x3x1_0_1_2 : (⟨S4x2x3, .f32⟩ : BufTy).Contents (Elt F) → (⟨S4x2x3x1, .f32⟩ : BufTy).Contents (Elt F)),
    unary main_v16 main_v19 (broadcastInDim S1x1x3x50176 ![2, 3] bcast_S3x50176_S1x1x3x50176_2_3 : (⟨S3x50176, .f32⟩ : BufTy).Contents (Elt F) → (⟨S1x1x3x50176, .f32⟩ : BufTy).Contents (Elt F)),
    unary main_v18 main_v20 (broadcastInDim S4x2x3x50176 ![0, 1, 2, 3] bcast_S4x2x3x1_S4x2x3x50176_0_1_2_3 : (⟨S4x2x3x1, .f32⟩ : BufTy).Contents (Elt F) → (⟨S4x2x3x50176, .f32⟩ : BufTy).Contents (Elt F)),
    unary main_v19 main_v21 (broadcastInDim S4x2x3x50176 ![0, 1, 2, 3] bcast_S1x1x3x50176_S4x2x3x50176_0_1_2_3 : (⟨S1x1x3x50176, .f32⟩ : BufTy).Contents (Elt F) → (⟨S4x2x3x50176, .f32⟩ : BufTy).Contents (Elt F)),
    binary main_v20 main_v21 main_v22 (mulf : (⟨S4x2x3x50176, .f32⟩ : BufTy).Contents (Elt F) → (⟨S4x2x3x50176, .f32⟩ : BufTy).Contents (Elt F) → (⟨S4x2x3x50176, .f32⟩ : BufTy).Contents (Elt F)),
    nullary main_cst_4 (constant S_ .f32 0x00000000#32),
    binary main_v22 main_cst_4 main_v23 ((fun x v => Host.reduceAdd x v reducesTo_S4x2x3x50176_S4x2x50176_d2 h_S_) : (⟨S4x2x3x50176, .f32⟩ : BufTy).Contents (Elt F) → (⟨S_, .f32⟩ : BufTy).Contents (Elt F) → (⟨S4x2x50176, .f32⟩ : BufTy).Contents (Elt F)),
    unary main_v23 main_v24 ((extractStridedSlice S4x1x50176 ![0, 0, 0] · slices_S4x2x50176_S4x1x50176_0_0_0) : (⟨S4x2x50176, .f32⟩ : BufTy).Contents (Elt F) → (⟨S4x1x50176, .f32⟩ : BufTy).Contents (Elt F)),
    reshape main_v24 main_v25 (rfl : (.f32 : EltTy) = .f32) shapeCasts_S4x1x50176_S4x50176,
    unary main_v23 main_v26 ((extractStridedSlice S4x1x50176 ![0, 1, 0] · slices_S4x2x50176_S4x1x50176_0_1_0) : (⟨S4x2x50176, .f32⟩ : BufTy).Contents (Elt F) → (⟨S4x1x50176, .f32⟩ : BufTy).Contents (Elt F)),
    reshape main_v26 main_v27 (rfl : (.f32 : EltTy) = .f32) shapeCasts_S4x1x50176_S4x50176 ]

/-- The reshapes between the two calls. -/
abbrev mid : List (HloOp τ sig (Elt F)) :=
  [ reshape main_v28_0 main_v29 (rfl : (.i32 : EltTy) = .i32) shapeCasts_S4x50176_S200704,
    reshape main_v28_1 main_v30 (rfl : (.i32 : EltTy) = .i32) shapeCasts_S4x50176_S200704,
    reshape main_v28_2 main_v31 (rfl : (.i32 : EltTy) = .i32) shapeCasts_S4x50176_S200704,
    reshape main_v28_3 main_v32 (rfl : (.i32 : EltTy) = .i32) shapeCasts_S4x50176_S200704,
    reshape main_v28_4 main_v33 (rfl : (.f32 : EltTy) = .f32) shapeCasts_S4x50176_S200704,
    reshape main_v28_5 main_v34 (rfl : (.f32 : EltTy) = .f32) shapeCasts_S4x50176_S200704,
    reshape main_v28_6 main_v35 (rfl : (.f32 : EltTy) = .f32) shapeCasts_S4x50176_S200704,
    reshape main_v28_7 main_v36 (rfl : (.f32 : EltTy) = .f32) shapeCasts_S4x50176_S200704,
    reshape main_arg0 main_v37 (rfl : (.f32 : EltTy) = .f32) shapeCasts_S4x192x224x224_S38535168 ]

/-- The last reshape. -/
abbrev post : List (HloOp τ sig (Elt F)) :=
  [ reshape main_v38 main_v39 (rfl : (.f32 : EltTy) = .f32) shapeCasts_S38535168_S4x192x224x224 ]

/-- The TensorCore's own call, as it stands in @main. -/
abbrev coefCall : Prog (TpuEff nD τ sig (Elt F) (SparseCore.Sig (ΛP (F := F)) 1) .tc) PUnit := Prog.lift (.customCall (SparseCore.inner (Pipeline.entry 0)) ())

set_option maxRecDepth 8192 in
set_option maxHeartbeats 8000000 in
/-- @main is the straight lines with the two calls between them. -/
theorem main_eq (d : Dev nD) : main (F := F) d
    = (seq preA >>= fun _ => seq preB >>= fun _ => seq preC >>= fun _ => seq preD >>= fun _ => coefCall >>= fun _ =>
        seq mid >>= fun _ => (K (F := F)).run d 0 >>= fun _ => seq post >>= fun _ => pure ⟨⟩) := rfl

theorem preA_sub : (preA : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub ..⟩

theorem preA_fresh : ∀ op ∈ (preA : List (HloOp τ sig (Elt F))), op.fresh = ∅ := by
  intro op h; fin_cases h <;> rfl

/-- The buffers `preA` writes. -/
abbrev preA_w : List (Ref sig .tc) := [main_cst, main_cst_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v0]

theorem preA_writes : (preA : List (HloOp τ sig (Elt F))).Forall fun op => op.writes ⊆ (preA_w.map (Proc.devRef (τ := τ) .tc)).toFinset := by
  simp only [List.Forall]
  exact ⟨by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide)⟩

theorem preB_sub : (preB : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub ..⟩

theorem preB_fresh : ∀ op ∈ (preB : List (HloOp τ sig (Elt F))), op.fresh = ∅ := by
  intro op h; fin_cases h <;> rfl

/-- The buffers `preB` writes. -/
abbrev preB_w : List (Ref sig .tc) := [main_cst_1, main_cst_2, main_call1_v0, main_call1_v1, main_call1_v2, main_call1_cst, main_call1_v3, main_call1_v4, main_call1_cst_0, main_call1_v5, main_call1_v6, main_call1_v7, main_call1_cst_1, main_call1_v8, main_call1_v9, main_call1_v10, main_call1_v11, main_call1_v12, main_call1_v13, main_call1_v14, main_call1_v15, main_call1_v16, main_v1]

theorem preB_writes : (preB : List (HloOp τ sig (Elt F))).Forall fun op => op.writes ⊆ (preB_w.map (Proc.devRef (τ := τ) .tc)).toFinset := by
  simp only [List.Forall]
  exact ⟨by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide)⟩

theorem preC_sub : (preC : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., reshape_bufs_sub .., reshape_bufs_sub .., nullary_bufs_sub .., unary_bufs_sub .., unary_bufs_sub .., unary_bufs_sub .., unary_bufs_sub .., nary_bufs_sub ..⟩

theorem preC_fresh : ∀ op ∈ (preC : List (HloOp τ sig (Elt F))), op.fresh = ∅ := by
  intro op h; fin_cases h <;> rfl

/-- The buffers `preC` writes. -/
abbrev preC_w : List (Ref sig .tc) := [main_v2, main_v3, main_v4, main_v5, main_v6, main_v7, main_v8, main_v9, main_v10, main_v11, main_cst_3, main_v12, main_v13, main_v14, main_v15, main_v16]

theorem preC_writes : (preC : List (HloOp τ sig (Elt F))).Forall fun op => op.writes ⊆ (preC_w.map (Proc.devRef (τ := τ) .tc)).toFinset := by
  simp only [List.Forall]
  exact ⟨by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide)⟩

theorem preD_sub : (preD : List (HloOp τ sig (Elt F))).Forall fun op => op.bufs ⊆ tcRefs τ sig :=
  ⟨reshape_bufs_sub .., unary_bufs_sub .., unary_bufs_sub .., unary_bufs_sub .., unary_bufs_sub .., binary_bufs_sub .., nullary_bufs_sub .., binary_bufs_sub .., unary_bufs_sub .., reshape_bufs_sub .., unary_bufs_sub .., reshape_bufs_sub ..⟩

theorem preD_fresh : ∀ op ∈ (preD : List (HloOp τ sig (Elt F))), op.fresh = ∅ := by
  intro op h; fin_cases h <;> rfl

/-- The buffers `preD` writes. -/
abbrev preD_w : List (Ref sig .tc) := [main_v17, main_v18, main_v19, main_v20, main_v21, main_v22, main_cst_4, main_v23, main_v24, main_v25, main_v26, main_v27]

theorem preD_writes : (preD : List (HloOp τ sig (Elt F))).Forall fun op => op.writes ⊆ (preD_w.map (Proc.devRef (τ := τ) .tc)).toFinset := by
  simp only [List.Forall]
  exact ⟨by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide)⟩

theorem mid_sub : (mid : List (HloOp τ sig (Elt F))).Forall fun op => op.bufs ⊆ tcRefs τ sig :=
  ⟨reshape_bufs_sub .., reshape_bufs_sub .., reshape_bufs_sub .., reshape_bufs_sub .., reshape_bufs_sub .., reshape_bufs_sub .., reshape_bufs_sub .., reshape_bufs_sub .., reshape_bufs_sub ..⟩

theorem mid_fresh : ∀ op ∈ (mid : List (HloOp τ sig (Elt F))), op.fresh = ∅ := by
  intro op h; fin_cases h <;> rfl

/-- The buffers `mid` writes. -/
abbrev mid_w : List (Ref sig .tc) := [main_v29, main_v30, main_v31, main_v32, main_v33, main_v34, main_v35, main_v36, main_v37]

theorem mid_writes : (mid : List (HloOp τ sig (Elt F))).Forall fun op => op.writes ⊆ (mid_w.map (Proc.devRef (τ := τ) .tc)).toFinset := by
  simp only [List.Forall]
  exact ⟨by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide), by simp only [TRef.binary, TRef.nullary, TRef.reshape, TRef.unary, nullary_writes, unary_writes, binary_writes, reshape_writes, nary_writes, Finset.singleton_subset_iff, List.mem_toFinset]; exact List.mem_map_of_mem (by decide)⟩

theorem post_sub : (post : List (HloOp τ sig (Elt F))).Forall fun op => op.bufs ⊆ tcRefs τ sig :=
  reshape_bufs_sub ..

theorem post_fresh : ∀ op ∈ (post : List (HloOp τ sig (Elt F))), op.fresh = ∅ := by
  intro op h; fin_cases h <;> rfl

/-- The buffers `post` writes. -/
abbrev post_w : List (Ref sig .tc) := [main_v39]

theorem post_writes : (post : List (HloOp τ sig (Elt F))).Forall fun op => op.writes ⊆ (post_w.map (Proc.devRef (τ := τ) .tc)).toFinset := by
  simp only [List.Forall]
  exact by simp only [TRef.binary, TRef.nullary, TRef.reshape, TRef.unary, nullary_writes, unary_writes, binary_writes, reshape_writes, nary_writes, Finset.singleton_subset_iff, List.mem_toFinset]; exact List.mem_map_of_mem (by decide)

/-! ## The coordinates -/

/-- The quotients `i / 223`, for `i` up to 222. -/
def linStep : Vec F S223 .f32 :=
  Host.divf (sitofp .f32 (iotaInDim S223 32 0)) (broadcastInDim S223 ![] bcast_S_S223 (constant S_ .f32 0x435F0000#32))

/-- 224 evenly spaced numbers from minus one to one. -/
def linV : Vec F S224 .f32 :=
  fn_main_v0
    (addf
      (mulf (broadcastInDim S223 ![0] bcast_S1_S223_0 (shapeCast _ (constant S_ .f32 0xBF800000#32 : Vec F S_ .f32) shapeCasts_S_S1))
        (subf (broadcastInDim S223 ![] bcast_S_S223 (constant S_ .f32 0x3F800000#32)) linStep))
      (mulf (broadcastInDim S223 ![0] bcast_S1_S223_0 (shapeCast _ (constant S_ .f32 0x3F800000#32 : Vec F S_ .f32) shapeCasts_S_S1)) linStep))
    (broadcastInDim S1 ![] bcast_S_S1 (constant S_ .f32 0x3F800000#32))

/-- The homogeneous coordinates of the pixels: column, row, one. -/
def gridV : Vec F S3x50176 .f32 :=
  fn_main_v16
    (broadcastInDim S1x50176 ![1] bcast_S50176_S1x50176_1 (shapeCast S50176 (shapeCast S224x224 (broadcastInDim S224x1x1x224 ![0, 1, 2, 3] bcast_S1x1x1x224_S224x1x1x224_0_1_2_3 (shapeCast S1x1x1x224 (broadcastInDim S1x224 ![1] bcast_S224_S1x224_1 (linV (F := F))) shapeCasts_S1x224_S1x1x1x224)) shapeCasts_S224x1x1x224_S224x224) shapeCasts_S224x224_S50176))
    (broadcastInDim S1x50176 ![1] bcast_S50176_S1x50176_1 (shapeCast S50176 (shapeCast S224x224 (broadcastInDim S1x224x224x1 ![0, 1, 2, 3] bcast_S1x224x1x1_S1x224x224x1_0_1_2_3 (shapeCast S1x224x1x1 (broadcastInDim S224x1 ![0] bcast_S224_S224x1_0 (linV (F := F))) shapeCasts_S224x1_S1x224x1x1)) shapeCasts_S1x224x224x1_S224x224) shapeCasts_S224x224_S50176))
    (broadcastInDim S1x50176 ![1] bcast_S50176_S1x50176_1 (broadcastInDim S50176 ![] bcast_S_S50176 (constant S_ .f32 0x3F800000#32)))

/-- The affine map `θ` of every batch applied to every pixel's coordinates. -/
def xyV (θ : Vec F S4x6 .f32) : Vec F S4x2x50176 .f32 :=
  Host.reduceAdd
    (mulf (broadcastInDim S4x2x3x50176 ![0, 1, 2, 3] bcast_S4x2x3x1_S4x2x3x50176_0_1_2_3 (broadcastInDim S4x2x3x1 ![0, 1, 2] bcast_S4x2x3_S4x2x3x1_0_1_2 (shapeCast S4x2x3 θ shapeCasts_S4x6_S4x2x3)))
      (broadcastInDim S4x2x3x50176 ![0, 1, 2, 3] bcast_S1x1x3x50176_S4x2x3x50176_0_1_2_3 (broadcastInDim S1x1x3x50176 ![2, 3] bcast_S3x50176_S1x1x3x50176_2_3 (gridV (F := F)))))
    (constant S_ .f32 0x00000000#32) reducesTo_S4x2x3x50176_S4x2x50176_d2 h_S_

/-- The sampled columns. -/
def xsV (θ : Vec F S4x6 .f32) : Vec F S4x50176 .f32 :=
  shapeCast S4x50176 (extractStridedSlice S4x1x50176 ![0, 0, 0] (xyV θ) slices_S4x2x50176_S4x1x50176_0_0_0) shapeCasts_S4x1x50176_S4x50176

/-- The sampled rows. -/
def ysV (θ : Vec F S4x6 .f32) : Vec F S4x50176 .f32 :=
  shapeCast S4x50176 (extractStridedSlice S4x1x50176 ![0, 1, 0] (xyV θ) slices_S4x2x50176_S4x1x50176_0_1_0) shapeCasts_S4x1x50176_S4x50176

set_option maxRecDepth 8192 in
set_option maxHeartbeats 2000000 in
theorem preA_v0 (V0 : Valuation τ sig (Elt F)) : after preA V0 (no_index (Proc.devRef .tc main_v0)) = linV (F := F) := by
  simp only [preA, TRef.binary, TRef.nullary, TRef.reshape, TRef.unary, TRef.toBuf, TRef.ofBuf, cast_eq]
  after_results_simp
  all_goals rfl

set_option maxRecDepth 8192 in
set_option maxHeartbeats 2000000 in
theorem preB_v1 (V0 : Valuation τ sig (Elt F)) : after preB V0 (no_index (Proc.devRef .tc main_v1)) = linV (F := F) := by
  simp only [preB, TRef.binary, TRef.nullary, TRef.reshape, TRef.unary, TRef.toBuf, TRef.ofBuf, cast_eq]
  after_results_simp
  all_goals rfl

theorem preA_keep (V0 : Valuation τ sig (Elt F)) (r : Ref sig .tc) (h : r ∉ preA_w) : after preA V0 (Proc.devRef .tc r) = V0 (Proc.devRef .tc r) :=
  after_of_writes_sub preA _ preA_writes h
theorem preB_keep (V0 : Valuation τ sig (Elt F)) (r : Ref sig .tc) (h : r ∉ preB_w) : after preB V0 (Proc.devRef .tc r) = V0 (Proc.devRef .tc r) :=
  after_of_writes_sub preB _ preB_writes h
theorem preC_keep (V0 : Valuation τ sig (Elt F)) (r : Ref sig .tc) (h : r ∉ preC_w) : after preC V0 (Proc.devRef .tc r) = V0 (Proc.devRef .tc r) :=
  after_of_writes_sub preC _ preC_writes h
theorem preD_keep (V0 : Valuation τ sig (Elt F)) (r : Ref sig .tc) (h : r ∉ preD_w) : after preD V0 (Proc.devRef .tc r) = V0 (Proc.devRef .tc r) :=
  after_of_writes_sub preD _ preD_writes h
theorem mid_keep (V0 : Valuation τ sig (Elt F)) (r : Ref sig .tc) (h : r ∉ mid_w) : after mid V0 (Proc.devRef .tc r) = V0 (Proc.devRef .tc r) :=
  after_of_writes_sub mid _ mid_writes h
theorem post_keep (V0 : Valuation τ sig (Elt F)) (r : Ref sig .tc) (h : r ∉ post_w) : after post V0 (Proc.devRef .tc r) = V0 (Proc.devRef .tc r) :=
  after_of_writes_sub post _ post_writes h

set_option maxRecDepth 8192 in
set_option maxHeartbeats 2000000 in
theorem preC_v16 (V0 : Valuation τ sig (Elt F)) (h0 : V0 (Proc.devRef .tc main_v0) = linV (F := F)) (h1 : V0 (Proc.devRef .tc main_v1) = linV (F := F)) :
    after preC V0 (no_index (Proc.devRef .tc main_v16)) = gridV (F := F) := by
  simp only [preC]
  after_results_simp
  try dsimp only [Matrix.cons_val]
  try after_results_simp
  simp only [h0, h1]
  all_goals rfl

set_option maxRecDepth 8192 in
set_option maxHeartbeats 2000000 in
theorem preD_v25 (V0 : Valuation τ sig (Elt F)) (h0 : V0 (Proc.devRef .tc main_v16) = gridV (F := F)) :
    after preD V0 (no_index (Proc.devRef .tc main_v25)) = xsV (V0 (Proc.devRef .tc main_arg1)) := by
  simp only [preD]
  after_results_simp
  simp only [h0]
  all_goals rfl

set_option maxRecDepth 8192 in
set_option maxHeartbeats 2000000 in
theorem preD_v27 (V0 : Valuation τ sig (Elt F)) (h0 : V0 (Proc.devRef .tc main_v16) = gridV (F := F)) :
    after preD V0 (no_index (Proc.devRef .tc main_v27)) = ysV (V0 (Proc.devRef .tc main_arg1)) := by
  simp only [preD]
  after_results_simp
  simp only [h0]
  all_goals rfl

/-- The memory before the TensorCore's call. -/
def pre4 (V0 : Valuation τ sig (Elt F)) : Valuation τ sig (Elt F) := after preD (after preC (after preB (after preA V0)))

theorem pre4_v16 (V0 : Valuation τ sig (Elt F)) : after preC (after preB (after preA V0)) (Proc.devRef .tc main_v16) = gridV (F := F) :=
  preC_v16 _ ((preB_keep _ _ (by decide)).trans (preA_v0 V0)) (preB_v1 _)

theorem pre4_arg (V0 : Valuation τ sig (Elt F)) (r : Ref sig .tc) (hA : r ∉ preA_w) (hB : r ∉ preB_w) (hC : r ∉ preC_w) :
    after preC (after preB (after preA V0)) (Proc.devRef .tc r) = V0 (Proc.devRef .tc r) :=
  (preC_keep _ _ hC).trans ((preB_keep _ _ hB).trans (preA_keep _ _ hA))

theorem pre4_keep (V0 : Valuation τ sig (Elt F)) (r : Ref sig .tc) (hA : r ∉ preA_w) (hB : r ∉ preB_w) (hC : r ∉ preC_w) (hD : r ∉ preD_w) :
    pre4 V0 (Proc.devRef .tc r) = V0 (Proc.devRef .tc r) := (preD_keep _ _ hD).trans (pre4_arg V0 r hA hB hC)

theorem pre4_v25 (V0 : Valuation τ sig (Elt F)) : pre4 V0 (Proc.devRef .tc main_v25) = xsV (V0 (Proc.devRef .tc main_arg1)) :=
  (preD_v25 _ (pre4_v16 V0)).trans (congrArg xsV (pre4_arg V0 main_arg1 (by decide) (by decide) (by decide)))
theorem pre4_v27 (V0 : Valuation τ sig (Elt F)) : pre4 V0 (Proc.devRef .tc main_v27) = ysV (V0 (Proc.devRef .tc main_arg1)) :=
  (preD_v27 _ (pre4_v16 V0)).trans (congrArg ysV (pre4_arg V0 main_arg1 (by decide) (by decide) (by decide)))

/-! ## The unscoped buffers -/

/-- The TensorCore's buffers that no program scopes. -/
abbrev ucRefs : Finset (DevRef τ sig) := (StableHlo.tcRefs τ sig).filter fun b => ¬ b.isScoped

theorem sub_of_forall {ops : List (HloOp τ sig (Elt F))} (h : ops.Forall fun op => op.bufs ⊆ StableHlo.tcRefs τ sig) :
    ∀ op ∈ ops, op.bufs ⊆ ucRefs := fun op hop b hb =>
  Finset.mem_filter.mpr ⟨(List.forall_iff_forall_mem.mp h) op hop hb, fun h' => Bool.false_ne_true ((op.no_scoped b hb).symm.trans h')⟩

end Cert.Proof.KernelIdeal
-- ==== Proof.KernelIdeal.Coef.lean ====
module

public import proofs.«01_k».proof.Proof.KernelIdeal.Setup
public import proofs.«01_k».proof.Proof.Gen.KernelIdeal.Launch
public import proofs.«01_k».proof.Proof.Gen.KernelIdeal.Points
public import Idealize.ShloMosaic.Lib.Pipeline.Value

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {s : Shape} {e : EltTy} (M : Memref sig .tc sp s e) : Type := Buf (Elt F) (M.view.loc (T c : Thread nD τ))
abbrev pt (c : Dev nD) {sp : Space} {s : Shape} {e : EltTy} (M : Memref sig .tc sp s e) (f : Bf (F := F) c M) : sProp 𝕄 :=
  M.view.loc (T c : Thread nD τ) ↦{fullShare} f

/-- Memref `M` of core `c` held whole at contents that read `x`. -/
abbrev held1 (c : Dev nD) {sp : Space} {s : Shape} {e : EltTy} (M : Memref sig .tc sp s e) (x : s.Idx → Elt F e) : sProp 𝕄 :=
  iprop(∃ f : Bf (F := F) c M, ⌜M.view.read (Elt F) f = x⌝ ∗ pt c M f)

/-! ## The eight tables, as functions of the grid's two coordinates -/

/-- The lower-left corner's place in a plane, point by point. -/
def tabIa (x y : Vec F S4x50176 .f32) : IVec S4x50176 32 := k0_pay17 (k0_pay5 x) (k0_pay7 y)
/-- The upper-left corner's. -/
def tabIb (x y : Vec F S4x50176 .f32) : IVec S4x50176 32 := k0_pay18 (k0_pay5 x) (k0_pay8 y)
/-- The lower-right corner's. -/
def tabIc (x y : Vec F S4x50176 .f32) : IVec S4x50176 32 := k0_pay19 (k0_pay6 x) (k0_pay7 y)
/-- The upper-right corner's. -/
def tabId (x y : Vec F S4x50176 .f32) : IVec S4x50176 32 := k0_pay20 (k0_pay6 x) (k0_pay8 y)
/-- The weight of corner `a`, point by point. -/
def tabWa (x y : Vec F S4x50176 .f32) : FVec F S4x50176 .f32 := k0_pay13 (k0_pay1 x) (k0_pay2 y) (k0_pay6 x) (k0_pay8 y)
/-- The weight of corner `b`, point by point. -/
def tabWb (x y : Vec F S4x50176 .f32) : FVec F S4x50176 .f32 := k0_pay14 (k0_pay1 x) (k0_pay2 y) (k0_pay6 x) (k0_pay7 y)
/-- The weight of corner `c`, point by point. -/
def tabWc (x y : Vec F S4x50176 .f32) : FVec F S4x50176 .f32 := k0_pay15 (k0_pay1 x) (k0_pay2 y) (k0_pay5 x) (k0_pay8 y)
/-- The weight of corner `d`, point by point. -/
def tabWd (x y : Vec F S4x50176 .f32) : FVec F S4x50176 .f32 := k0_pay16 (k0_pay1 x) (k0_pay2 y) (k0_pay5 x) (k0_pay7 y)

/-! ## The body -/

theorem unit0_idx (h : ∀ a, (![0, 0] : Fin 2 → ℕ) a + S4x50176.size a ≤ S4x50176.size a) (y : S4x50176.Idx) :
    (Rect.unit (s := S4x50176) ![0, 0] S4x50176.size h).emb y = y := by
  funext a; refine Fin.ext ?_
  rw [Rect.emb_apply]; show (![0, 0] : Fin 2 → ℕ) a + 1 * (y a : ℕ) = _
  fin_cases a <;> simp

/-- A load of the whole view is its contents. -/
theorem readAt_all {e : EltTy} {sp : Space} (v : View sig .tc sp S4x50176 e) (f : v.ty.Contents (Elt F)) :
    v.readAt (Elt F) (Rect.unit (s := S4x50176) ![0, 0] S4x50176.size inb_S4x50176_S4x50176_0_0).toLoadRect f = v.read (Elt F) f := by
  funext y; rw [View.readAt_apply]
  exact congrArg _ (unit0_idx _ y)

/-- A store of the whole view, read back. -/
theorem read_store_all {e : EltTy} {sp : Space} (v : View sig .tc sp S4x50176 e) (f : v.ty.Contents (Elt F)) (w : S4x50176.Idx → Elt F e) :
    v.read (Elt F) (v.writes (Elt F) f [⟨Rect.unit (s := S4x50176) ![0, 0] S4x50176.size inb_S4x50176_S4x50176_0_0, w⟩]) = w := by
  funext y
  have hr := View.read_writes_cons_emb (v := v) (f := f) (Rect.unit (s := S4x50176) ![0, 0] S4x50176.size inb_S4x50176_S4x50176_0_0) w [] y
  rwa [unit0_idx] at hr

/-- The body on ten whole buffers: the two coordinates stay, each table's buffer ends at its table. -/
theorem coef_run (c : Dev nD) (A0 : Memref sig .tc .vmem S4x50176 .f32) (h0 : A0.IsWhole) (A1 : Memref sig .tc .vmem S4x50176 .f32) (h1 : A1.IsWhole) (A2 : Memref sig .tc .vmem S4x50176 .i32) (h2 : A2.IsWhole) (A3 : Memref sig .tc .vmem S4x50176 .i32) (h3 : A3.IsWhole) (A4 : Memref sig .tc .vmem S4x50176 .i32) (h4 : A4.IsWhole) (A5 : Memref sig .tc .vmem S4x50176 .i32) (h5 : A5.IsWhole) (A6 : Memref sig .tc .vmem S4x50176 .f32) (h6 : A6.IsWhole) (A7 : Memref sig .tc .vmem S4x50176 .f32) (h7 : A7.IsWhole) (A8 : Memref sig .tc .vmem S4x50176 .f32) (h8 : A8.IsWhole) (A9 : Memref sig .tc .vmem S4x50176 .f32) (h9 : A9.IsWhole)
    (f0 : Bf (F := F) c A0) (f1 : Bf (F := F) c A1) (f2 : Bf (F := F) c A2) (f3 : Bf (F := F) c A3) (f4 : Bf (F := F) c A4) (f5 : Bf (F := F) c A5) (f6 : Bf (F := F) c A6) (f7 : Bf (F := F) c A7) (f8 : Bf (F := F) c A8) (f9 : Bf (F := F) c A9) (E : Set ℕ) (Q : PUnit → sProp 𝕄) :
    iprop(pt c A0 f0 ∗ pt c A1 f1 ∗ pt c A2 f2 ∗ pt c A3 f3 ∗ pt c A4 f4 ∗ pt c A5 f5 ∗ pt c A6 f6 ∗ pt c A7 f7 ∗ pt c A8 f8 ∗ pt c A9 f9 ∗ (iprop(pt c A0 f0 ∗ pt c A1 f1 ∗ held1 c A2 (tabIa (A0.view.read (Elt F) f0) (A1.view.read (Elt F) f1)) ∗ held1 c A3 (tabIb (A0.view.read (Elt F) f0) (A1.view.read (Elt F) f1)) ∗ held1 c A4 (tabIc (A0.view.read (Elt F) f0) (A1.view.read (Elt F) f1)) ∗ held1 c A5 (tabId (A0.view.read (Elt F) f0) (A1.view.read (Elt F) f1)) ∗ held1 c A6 (tabWa (A0.view.read (Elt F) f0) (A1.view.read (Elt F) f1)) ∗ held1 c A7 (tabWb (A0.view.read (Elt F) f0) (A1.view.read (Elt F) f1)) ∗ held1 c A8 (tabWc (A0.view.read (Elt F) f0) (A1.view.read (Elt F) f1)) ∗ held1 c A9 (tabWd (A0.view.read (Elt F) f0) (A1.view.read (Elt F) f1))) -∗ Q ⟨⟩))
      ⊢ wp frame (wpE (defs₀ (F := F)) Variants.none (T c) none) E (cc0__coef_body A0 h0 A1 h1 A2 h2 A3 h3 A4 h4 A5 h5 A6 h6 A7 h7 A8 h8 A9 h9) Q := by
  rw [cc0__coef_body_eq_skeleton]; unfold cc0__coef_body_skel
  rw [k0_part1_eq_skeleton]; unfold k0_part1_skel
  rw [k0_part2_eq_skeleton]; unfold k0_part2_skel
  iintro ⟨H0, H1, H2, H3, H4, H5, H6, H7, H8, H9, Hk⟩
  sl_exec!
  sl_step
  iapply Hk
  isplitl [H0]; · iexact H0
  isplitl [H1]; · iexact H1
  isplitl [H2]
  · iexists _; isplitr; swap; · iexact H2
    ipureintro; rw [← readAt_all A0.view f0, ← readAt_all A1.view f1]; exact read_store_all _ _ _
  isplitl [H3]
  · iexists _; isplitr; swap; · iexact H3
    ipureintro; rw [← readAt_all A0.view f0, ← readAt_all A1.view f1]; exact read_store_all _ _ _
  isplitl [H4]
  · iexists _; isplitr; swap; · iexact H4
    ipureintro; rw [← readAt_all A0.view f0, ← readAt_all A1.view f1]; exact read_store_all _ _ _
  isplitl [H5]
  · iexists _; isplitr; swap; · iexact H5
    ipureintro; rw [← readAt_all A0.view f0, ← readAt_all A1.view f1]; exact read_store_all _ _ _
  isplitl [H6]
  · iexists _; isplitr; swap; · iexact H6
    ipureintro; rw [← readAt_all A0.view f0, ← readAt_all A1.view f1]; exact read_store_all _ _ _
  isplitl [H7]
  · iexists _; isplitr; swap; · iexact H7
    ipureintro; rw [← readAt_all A0.view f0, ← readAt_all A1.view f1]; exact read_store_all _ _ _
  isplitl [H8]
  · iexists _; isplitr; swap; · iexact H8
    ipureintro; rw [← readAt_all A0.view f0, ← readAt_all A1.view f1]; exact read_store_all _ _ _
  iexists _; isplitr; swap; · iexact H9
  ipureintro; rw [← readAt_all A0.view f0, ← readAt_all A1.view f1]; exact read_store_all _ _ _

end Cert.Proof.KernelIdeal
-- ==== Proof.KernelIdeal.Spec.lean ====
/-
  What the SparseCore kernel computes, as a function of the nine arrays it reads: the image as 768 planes of 50176
  elements, four tables of positions within a plane and four tables of weights, one entry per batch and pixel.
-/
module

public import proofs.«01_k».proof.Proof.KernelIdeal.Setup

@[expose] public section

noncomputable section

namespace Cert.Proof.KernelIdeal

open Cert.KernelIdeal Cert.KernelIdeal.Gen
open Idealize.ShloMosaic

variable {F : FTy → Type}

/-! ## Places of the one-axis arrays, by number -/

def im (n : ℕ) : S38535168.Idx := fun a => ⟨n % 38535168, by fin_cases a; exact Nat.mod_lt _ (by decide)⟩
def wi (n : ℕ) : S200704.Idx := fun a => ⟨n % 200704, by fin_cases a; exact Nat.mod_lt _ (by decide)⟩
def pl (n : ℕ) : S50176.Idx := fun a => ⟨n % 50176, by fin_cases a; exact Nat.mod_lt _ (by decide)⟩
def ch (n : ℕ) : S3136.Idx := fun a => ⟨n % 3136, by fin_cases a; exact Nat.mod_lt _ (by decide)⟩

/-- Two places of a one-axis array with the same number are the same place. -/
theorem ext1 {s : Fin 1 → ℕ} {i j : (⟨1, s⟩ : Shape).Idx} (h : (i 0).val = (j 0).val) : i = j := by
  funext a; have : a = 0 := Subsingleton.elim _ _; subst this; exact Fin.ext h

theorem im_val {n : ℕ} (h : n < 38535168) : ((im n) 0).val = n := Nat.mod_eq_of_lt h
theorem wi_val {n : ℕ} (h : n < 200704) : ((wi n) 0).val = n := Nat.mod_eq_of_lt h
theorem pl_val {n : ℕ} (h : n < 50176) : ((pl n) 0).val = n := Nat.mod_eq_of_lt h
theorem ch_val {n : ℕ} (h : n < 3136) : ((ch n) 0).val = n := Nat.mod_eq_of_lt h

/-- The nine arrays the kernel reads. -/
structure Inp (F : FTy → Type) where
  img : Vec F S38535168 .f32
  ia : IVec S200704 32
  ib : IVec S200704 32
  ic : IVec S200704 32
  id : IVec S200704 32
  wa : Vec F S200704 .f32
  wb : Vec F S200704 .f32
  wc : Vec F S200704 .f32
  wd : Vec F S200704 .f32

/-- Every position named by the four tables lies within a plane. -/
structure Inp.InRange (x : Inp F) : Prop where
  a : ∀ k, (x.ia k).toNat < 50176
  b : ∀ k, (x.ib k).toNat < 50176
  c : ∀ k, (x.ic k).toNat < 50176
  d : ∀ k, (x.id k).toNat < 50176

/-- The image element a table names for pixel entry `k` of plane `q`. -/
def tap (x : Inp F) (q : ℕ) (t : IVec S200704 32) (k : ℕ) : F .f32 := x.img (im (50176 * q + (t (wi k)).toNat))

variable [FloatOps F]

/-- Pixel `n` of plane `q`: four image elements, each times its weight, added from the left. -/
def blend (x : Inp F) (q n : ℕ) : F .f32 :=
  let k := 50176 * (q / 192) + n
  FloatOps.addf (FloatOps.addf (FloatOps.addf
    (FloatOps.mulf (x.wa (wi k)) (tap x q x.ia k)) (FloatOps.mulf (x.wb (wi k)) (tap x q x.ib k)))
    (FloatOps.mulf (x.wc (wi k)) (tap x q x.ic k))) (FloatOps.mulf (x.wd (wi k)) (tap x q x.id k))

/-- The whole result: element `n` is pixel `n % 50176` of plane `n / 50176`. -/
def outV (x : Inp F) : Vec F S38535168 .f32 := fun p => blend x ((p 0).val / 50176) ((p 0).val % 50176)

/-- Plane `q` of the image. -/
def plane (x : Inp F) (q : ℕ) : Vec F S50176 .f32 := fun j => x.img (im (50176 * q + (j 0).val))
/-- Three thousand one hundred and thirty-six entries of a table from entry `k₀` on. -/
def part {α : Type} (t : S200704.Idx → α) (k₀ : ℕ) : S3136.Idx → α := fun j => t (wi (k₀ + (j 0).val))
/-- Chunk `c` of plane `q` of the result. -/
def chunk (x : Inp F) (q c : ℕ) : Vec F S3136 .f32 := fun j => blend x q (3136 * c + (j 0).val)

end Cert.Proof.KernelIdeal
-- ==== Proof.KernelIdeal.Range.lean ====
/-
  The kernel's inputs as the tables and the image make them, and that every position the tables name lies within a plane.
-/
module

public import proofs.«01_k».proof.Proof.KernelIdeal.Coef
public import proofs.«01_k».proof.Proof.KernelIdeal.Spec
public import proofs.«01_k».proof.Proof.KernelIdeal.Host

@[expose] public section

noncomputable section

namespace Cert.Proof.KernelIdeal

open Cert.KernelIdeal Cert.KernelIdeal.Gen Idealize.ShloMosaic

variable {F : FTy → Type} [FloatOps F]

/-- A word clipped to run from nought to 223. -/
def clip (v : BitVec 32) : BitVec 32 := IntOp.minsi 223#32 (IntOp.maxsi 0#32 v)

theorem clip_le (v : BitVec 32) : (clip v).toNat ≤ 223 := by
  unfold clip IntOp.minsi IntOp.maxsi
  split
  · decide
  · next h =>
    split
    · decide
    · next h' =>
      simp only [BitVec.slt_eq_decide, decide_eq_true_eq, BitVec.toInt_eq_toNat_cond, BitVec.toNat_ofNat, Nat.reducePow, Nat.reduceMod] at h h'
      have := v.isLt
      split at h <;> split at h' <;> omega

theorem place_val {y x : BitVec 32} (hy : y.toNat ≤ 223) (hx : x.toNat ≤ 223) :
    (IntOp.addi (IntOp.muli y 224#32) x).toNat = 224 * y.toNat + x.toNat := by
  unfold IntOp.addi IntOp.muli
  rw [BitVec.toNat_add, BitVec.toNat_mul]
  simp only [BitVec.toNat_ofNat, Nat.reducePow, Nat.reduceMod]
  omega

theorem place_lt (y x : BitVec 32) : (IntOp.addi (IntOp.muli (clip y) 224#32) (clip x)).toNat < 50176 := by
  have hy := clip_le y; have hx := clip_le x
  rw [place_val hy hx]; omega

theorem tabIa_lt (x y : Vec F S4x50176 .f32) (k : S4x50176.Idx) : (tabIa x y k).toNat < 50176 := place_lt _ _
theorem tabIb_lt (x y : Vec F S4x50176 .f32) (k : S4x50176.Idx) : (tabIb x y k).toNat < 50176 := place_lt _ _
theorem tabIc_lt (x y : Vec F S4x50176 .f32) (k : S4x50176.Idx) : (tabIc x y k).toNat < 50176 := place_lt _ _
theorem tabId_lt (x y : Vec F S4x50176 .f32) (k : S4x50176.Idx) : (tabId x y k).toNat < 50176 := place_lt _ _

/-- What the SparseCore's call is given, of the image and the affine maps. -/
def inpOf (img : Vec F S4x192x224x224 .f32) (θ : Vec F S4x6 .f32) : Inp F where
  img := shapeCast S38535168 img shapeCasts_S4x192x224x224_S38535168
  ia := shapeCast S200704 (tabIa (xsV θ) (ysV θ)) shapeCasts_S4x50176_S200704
  ib := shapeCast S200704 (tabIb (xsV θ) (ysV θ)) shapeCasts_S4x50176_S200704
  ic := shapeCast S200704 (tabIc (xsV θ) (ysV θ)) shapeCasts_S4x50176_S200704
  id := shapeCast S200704 (tabId (xsV θ) (ysV θ)) shapeCasts_S4x50176_S200704
  wa := shapeCast S200704 (tabWa (xsV θ) (ysV θ)) shapeCasts_S4x50176_S200704
  wb := shapeCast S200704 (tabWb (xsV θ) (ysV θ)) shapeCasts_S4x50176_S200704
  wc := shapeCast S200704 (tabWc (xsV θ) (ysV θ)) shapeCasts_S4x50176_S200704
  wd := shapeCast S200704 (tabWd (xsV θ) (ysV θ)) shapeCasts_S4x50176_S200704

theorem inpOf_inRange (img : Vec F S4x192x224x224 .f32) (θ : Vec F S4x6 .f32) : (inpOf img θ).InRange where
  a _ := tabIa_lt _ _ _
  b _ := tabIb_lt _ _ _
  c _ := tabIc_lt _ _ _
  d _ := tabId_lt _ _ _

end Cert.Proof.KernelIdeal
-- ==== Proof.KernelIdeal.Region.lean ====
/-
  The pallas_call on the TensorCore as a region of @main: entered from the unscoped buffers at any contents, left with the
  eight tables' arrays at the tables.
-/
module

public import proofs.«01_k».proof.Proof.KernelIdeal.Coef
public import Idealize.ShloMosaic.Lib.Pipeline.RegionsLoop

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((T c : Thread nD τ).loc b))

/-- The two coordinates as the fetches stage them. -/
abbrev stgX (c : Dev nD) : Vec F S4x50176 .f32 := ((cfg0.win 0).blk t0_0).view.read (Elt F) (V c main_v25)
abbrev stgY (c : Dev nD) : Vec F S4x50176 .f32 := ((cfg0.win 1).blk t0_0).view.read (Elt F) (V c main_v27)

/-- What the core owes while the region runs: the SparseCore call's start signals. -/
abbrev owedT (c : Dev nD) : CellTallies nD τ sig (HIx 1) := (K (F := F)).Otc c 0
/-- The waits the core may have recorded by then: those of level nought. -/
abbrev recT (c : Dev nD) : Set (SemLoc sig × HIx 1) := {p | (K (F := F)).lev (T c, p.1) p.2 ≤ 0}

/-- The region's proof data, entered from contents `V`: the arrays at `V`; after the body the coordinates as fetched and
    each table's buffer at its table. -/
def dat (c : Dev nD) : Dat τ (Elt F) (HIx 1) ℕ UU ℕ cfg0 c where
  A w := V c (Pipeline.arrRef spec0 w)
  after w _ := match w with
    | ⟨0,_⟩ => stgX V c
    | ⟨1,_⟩ => stgY V c
    | ⟨2,_⟩ => tabIa (stgX V c) (stgY V c)
    | ⟨3,_⟩ => tabIb (stgX V c) (stgY V c)
    | ⟨4,_⟩ => tabIc (stgX V c) (stgY V c)
    | ⟨5,_⟩ => tabId (stgX V c) (stgY V c)
    | ⟨6,_⟩ => tabWa (stgX V c) (stgY V c)
    | ⟨7,_⟩ => tabWb (stgX V c) (stgY V c)
    | ⟨8,_⟩ => tabWc (stgX V c) (stgY V c)
    | ⟨9,_⟩ => tabWd (stgX V c) (stgY V c)
  Φ _ := Pipeline.scopedRest (Ix := HIx 1) (Name := ℕ) (U := UU) (Lvl := ℕ) (Val := Elt F) spec0 c
  q _ := fullShare
  owed _ := owedT (F := F) c
  recorded _ := recT (F := F) c

abbrev adm : (p : Fin 1) → (pcfgs (F := F) p).Adm := fun p => (cfgs p).toPCfg_adm

/-- The proof data of every pipeline: there is the one. -/
def pdats : (p : Fin 1) → (c : Dev nD) → Dat τ (Elt F) (HIx 1) ℕ UU ℕ (Pipeline.pin (pcfgs (F := F)) adm p) c
  | ⟨0, _⟩ => fun c => dat V c

theorem before_x (c : Dev nD) (d : (cfg0.win 0).block.Idx → Elt F (cfg0.win 0).elt) : (dat V c).before 0 t0_0 d = stgX V c := by
  unfold Dat.before; rw [if_pos (by decide)]; rfl
theorem before_y (c : Dev nD) (d : (cfg0.win 1).block.Idx → Elt F (cfg0.win 1).elt) : (dat V c).before 1 t0_0 d = stgY V c := by
  unfold Dat.before; rw [if_pos (by decide)]; rfl

theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = (dat V c).Φ t0_0.succ from rfl,
    show (dat V c).owesAt none t0_0.succ = (dat V c).owesAt none t0_0.castSucc from rfl]
  iintro ⟨HΦ, Howes, ⟨%d0, %f0, %hf0, H0⟩, ⟨%d1, %f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩⟩
  rw [before_x] at hf0; rw [before_y] at hf1
  subst hf0; subst hf1
  iapply (coef_run (F := F) c _ _ _ _ _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  isplitl [HΦ]; · iexact HΦ
  isplitl [Howes]; · iexact Howes
  isplitl [H0]; ·  iexists _; isplitr; swap; (· iexact H0); ipureintro; dsimp only [dat]
  isplitl [H1]; ·  iexists _; isplitr; swap; (· iexact H1); ipureintro; dsimp only [dat]
  isplitl [H2]; ·  iexists _; isplitr; swap; (· iexact H2); ipureintro; dsimp only [dat]; exact hg2
  isplitl [H3]; ·  iexists _; isplitr; swap; (· iexact H3); ipureintro; dsimp only [dat]; exact hg3
  isplitl [H4]; ·  iexists _; isplitr; swap; (· iexact H4); ipureintro; dsimp only [dat]; exact hg4
  isplitl [H5]; ·  iexists _; isplitr; swap; (· iexact H5); ipureintro; dsimp only [dat]; exact hg5
  isplitl [H6]; ·  iexists _; isplitr; swap; (· iexact H6); ipureintro; dsimp only [dat]; exact hg6
  isplitl [H7]; ·  iexists _; isplitr; swap; (· iexact H7); ipureintro; dsimp only [dat]; exact hg7
  isplitl [H8]; ·  iexists _; isplitr; swap; (· iexact H8); ipureintro; dsimp only [dat]; exact hg8
  iexists _; isplitr; swap; (· iexact H9); ipureintro; dsimp only [dat]; exact hg9

/-! ## The arrays after the region -/

theorem read_blk0 (c : Dev nD) (f : Buf (Elt F) ((T c : Thread nD τ).loc main_v25)) : ((cfg0.win 0).blk t0_0).view.read (Elt F) f = f :=
  Memref.read_access_unit_zero (Elt F) main_v25
    (show (fun a => (win0_0.index t0_0) a * main_v25.ty.shape.size a) = fun _ => 0 from funext fun a => by fin_cases a <;> decide)
    (fun a => by fin_cases a <;> decide) f
theorem read_blk1 (c : Dev nD) (f : Buf (Elt F) ((T c : Thread nD τ).loc main_v27)) : ((cfg0.win 1).blk t0_0).view.read (Elt F) f = f :=
  Memref.read_access_unit_zero (Elt F) main_v27
    (show (fun a => (win0_1.index t0_0) a * main_v27.ty.shape.size a) = fun _ => 0 from funext fun a => by fin_cases a <;> decide)
    (fun a => by fin_cases a <;> decide) f
theorem read_blk2 (c : Dev nD) (f : Buf (Elt F) ((T c : Thread nD τ).loc main_v28_0)) : ((cfg0.win 2).blk t0_0).view.read (Elt F) f = f :=
  Memref.read_access_unit_zero (Elt F) main_v28_0
    (show (fun a => (win0_2.index t0_0) a * main_v28_0.ty.shape.size a) = fun _ => 0 from funext fun a => by fin_cases a <;> decide)
    (fun a => by fin_cases a <;> decide) f
theorem read_blk3 (c : Dev nD) (f : Buf (Elt F) ((T c : Thread nD τ).loc main_v28_1)) : ((cfg0.win 3).blk t0_0).view.read (Elt F) f = f :=
  Memref.read_access_unit_zero (Elt F) main_v28_1
    (show (fun a => (win0_3.index t0_0) a * main_v28_1.ty.shape.size a) = fun _ => 0 from funext fun a => by fin_cases a <;> decide)
    (fun a => by fin_cases a <;> decide) f
theorem read_blk4 (c : Dev nD) (f : Buf (Elt F) ((T c : Thread nD τ).loc main_v28_2)) : ((cfg0.win 4).blk t0_0).view.read (Elt F) f = f :=
  Memref.read_access_unit_zero (Elt F) main_v28_2
    (show (fun a => (win0_4.index t0_0) a * main_v28_2.ty.shape.size a) = fun _ => 0 from funext fun a => by fin_cases a <;> decide)
    (fun a => by fin_cases a <;> decide) f
theorem read_blk5 (c : Dev nD) (f : Buf (Elt F) ((T c : Thread nD τ).loc main_v28_3)) : ((cfg0.win 5).blk t0_0).view.read (Elt F) f = f :=
  Memref.read_access_unit_zero (Elt F) main_v28_3
    (show (fun a => (win0_5.index t0_0) a * main_v28_3.ty.shape.size a) = fun _ => 0 from funext fun a => by fin_cases a <;> decide)
    (fun a => by fin_cases a <;> decide) f
theorem read_blk6 (c : Dev nD) (f : Buf (Elt F) ((T c : Thread nD τ).loc main_v28_4)) : ((cfg0.win 6).blk t0_0).view.read (Elt F) f = f :=
  Memref.read_access_unit_zero (Elt F) main_v28_4
    (show (fun a => (win0_6.index t0_0) a * main_v28_4.ty.shape.size a) = fun _ => 0 from funext fun a => by fin_cases a <;> decide)
    (fun a => by fin_cases a <;> decide) f
theorem read_blk7 (c : Dev nD) (f : Buf (Elt F) ((T c : Thread nD τ).loc main_v28_5)) : ((cfg0.win 7).blk t0_0).view.read (Elt F) f = f :=
  Memref.read_access_unit_zero (Elt F) main_v28_5
    (show (fun a => (win0_7.index t0_0) a * main_v28_5.ty.shape.size a) = fun _ => 0 from funext fun a => by fin_cases a <;> decide)
    (fun a => by fin_cases a <;> decide) f
theorem read_blk8 (c : Dev nD) (f : Buf (Elt F) ((T c : Thread nD τ).loc main_v28_6)) : ((cfg0.win 8).blk t0_0).view.read (Elt F) f = f :=
  Memref.read_access_unit_zero (Elt F) main_v28_6
    (show (fun a => (win0_8.index t0_0) a * main_v28_6.ty.shape.size a) = fun _ => 0 from funext fun a => by fin_cases a <;> decide)
    (fun a => by fin_cases a <;> decide) f
theorem read_blk9 (c : Dev nD) (f : Buf (Elt F) ((T c : Thread nD τ).loc main_v28_7)) : ((cfg0.win 9).blk t0_0).view.read (Elt F) f = f :=
  Memref.read_access_unit_zero (Elt F) main_v28_7
    (show (fun a => (win0_9.index t0_0) a * main_v28_7.ty.shape.size a) = fun _ => 0 from funext fun a => by fin_cases a <;> decide)
    (fun a => by fin_cases a <;> decide) f
theorem arr_2 (c : Dev nD) : (dat V c).arrAt 2 cfg0.N = tabIa (V c main_v25) (V c main_v27) := by
  have hw : ((cfg0.win 2).blk t0_0).view.read (Elt F) ((dat V c).arrAt 2 cfg0.N) = tabIa (stgX V c) (stgY V c) := by
    rw [show cfg0.N = t0_0.val + 1 from rfl, (dat V c).arrAt_succ (2 : Fin 10) t0_0, if_pos (flush0_2 t0_0)]
    exact View.read_write_univ _ _
  rw [stgX, stgY, read_blk0 c, read_blk1 c] at hw
  exact (read_blk2 c _).symm.trans hw
theorem arr_3 (c : Dev nD) : (dat V c).arrAt 3 cfg0.N = tabIb (V c main_v25) (V c main_v27) := by
  have hw : ((cfg0.win 3).blk t0_0).view.read (Elt F) ((dat V c).arrAt 3 cfg0.N) = tabIb (stgX V c) (stgY V c) := by
    rw [show cfg0.N = t0_0.val + 1 from rfl, (dat V c).arrAt_succ (3 : Fin 10) t0_0, if_pos (flush0_3 t0_0)]
    exact View.read_write_univ _ _
  rw [stgX, stgY, read_blk0 c, read_blk1 c] at hw
  exact (read_blk3 c _).symm.trans hw
theorem arr_4 (c : Dev nD) : (dat V c).arrAt 4 cfg0.N = tabIc (V c main_v25) (V c main_v27) := by
  have hw : ((cfg0.win 4).blk t0_0).view.read (Elt F) ((dat V c).arrAt 4 cfg0.N) = tabIc (stgX V c) (stgY V c) := by
    rw [show cfg0.N = t0_0.val + 1 from rfl, (dat V c).arrAt_succ (4 : Fin 10) t0_0, if_pos (flush0_4 t0_0)]
    exact View.read_write_univ _ _
  rw [stgX, stgY, read_blk0 c, read_blk1 c] at hw
  exact (read_blk4 c _).symm.trans hw
theorem arr_5 (c : Dev nD) : (dat V c).arrAt 5 cfg0.N = tabId (V c main_v25) (V c main_v27) := by
  have hw : ((cfg0.win 5).blk t0_0).view.read (Elt F) ((dat V c).arrAt 5 cfg0.N) = tabId (stgX V c) (stgY V c) := by
    rw [show cfg0.N = t0_0.val + 1 from rfl, (dat V c).arrAt_succ (5 : Fin 10) t0_0, if_pos (flush0_5 t0_0)]
    exact View.read_write_univ _ _
  rw [stgX, stgY, read_blk0 c, read_blk1 c] at hw
  exact (read_blk5 c _).symm.trans hw
theorem arr_6 (c : Dev nD) : (dat V c).arrAt 6 cfg0.N = tabWa (V c main_v25) (V c main_v27) := by
  have hw : ((cfg0.win 6).blk t0_0).view.read (Elt F) ((dat V c).arrAt 6 cfg0.N) = tabWa (stgX V c) (stgY V c) := by
    rw [show cfg0.N = t0_0.val + 1 from rfl, (dat V c).arrAt_succ (6 : Fin 10) t0_0, if_pos (flush0_6 t0_0)]
    exact View.read_write_univ _ _
  rw [stgX, stgY, read_blk0 c, read_blk1 c] at hw
  exact (read_blk6 c _).symm.trans hw
theorem arr_7 (c : Dev nD) : (dat V c).arrAt 7 cfg0.N = tabWb (V c main_v25) (V c main_v27) := by
  have hw : ((cfg0.win 7).blk t0_0).view.read (Elt F) ((dat V c).arrAt 7 cfg0.N) = tabWb (stgX V c) (stgY V c) := by
    rw [show cfg0.N = t0_0.val + 1 from rfl, (dat V c).arrAt_succ (7 : Fin 10) t0_0, if_pos (flush0_7 t0_0)]
    exact View.read_write_univ _ _
  rw [stgX, stgY, read_blk0 c, read_blk1 c] at hw
  exact (read_blk7 c _).symm.trans hw
theorem arr_8 (c : Dev nD) : (dat V c).arrAt 8 cfg0.N = tabWc (V c main_v25) (V c main_v27) := by
  have hw : ((cfg0.win 8).blk t0_0).view.read (Elt F) ((dat V c).arrAt 8 cfg0.N) = tabWc (stgX V c) (stgY V c) := by
    rw [show cfg0.N = t0_0.val + 1 from rfl, (dat V c).arrAt_succ (8 : Fin 10) t0_0, if_pos (flush0_8 t0_0)]
    exact View.read_write_univ _ _
  rw [stgX, stgY, read_blk0 c, read_blk1 c] at hw
  exact (read_blk8 c _).symm.trans hw
theorem arr_9 (c : Dev nD) : (dat V c).arrAt 9 cfg0.N = tabWd (V c main_v25) (V c main_v27) := by
  have hw : ((cfg0.win 9).blk t0_0).view.read (Elt F) ((dat V c).arrAt 9 cfg0.N) = tabWd (stgX V c) (stgY V c) := by
    rw [show cfg0.N = t0_0.val + 1 from rfl, (dat V c).arrAt_succ (9 : Fin 10) t0_0, if_pos (flush0_9 t0_0)]
    exact View.read_write_univ _ _
  rw [stgX, stgY, read_blk0 c, read_blk1 c] at hw
  exact (read_blk9 c _).symm.trans hw

/-! ## The region over the unscoped buffers -/

/-- The arrays the region writes. -/
abbrev outArr : List (Ref sig .tc) := [main_v28_0, main_v28_1, main_v28_2, main_v28_3, main_v28_4, main_v28_5, main_v28_6, main_v28_7]

variable (Vp : (c : Dev nD) → (b : Ref sig .tc) → Buf (Elt F) ((T c : Thread nD τ).loc b))

/-- What the core's waits have recorded stays at level nought. -/
theorem bound_le (c : Dev nD) (t : Fin (cfg0.N + 1)) (p : SemLoc sig × HIx 1) (hp : p ∈ (dat V c).bound none t) :
    (K (F := F)).lev (T c, p.1) p.2 ≤ 0 := by
  rcases hp with hp | ⟨w, s, rfl⟩
  · exact hp
  · exact le_of_eq rfl

/-- The references the region writes are the arrays of its output windows. -/
theorem outArr_arr (b : Ref sig .tc) (h : b ∈ outArr) : b ∈ Finset.univ.image (Pipeline.arrRef spec0) := by
  simp only [outArr, List.mem_cons, List.not_mem_nil, or_false] at h
  rcases h with h | h | h | h | h | h | h | h <;> subst h
  · exact Finset.mem_image.mpr ⟨2, Finset.mem_univ _, rfl⟩
  · exact Finset.mem_image.mpr ⟨3, Finset.mem_univ _, rfl⟩
  · exact Finset.mem_image.mpr ⟨4, Finset.mem_univ _, rfl⟩
  · exact Finset.mem_image.mpr ⟨5, Finset.mem_univ _, rfl⟩
  · exact Finset.mem_image.mpr ⟨6, Finset.mem_univ _, rfl⟩
  · exact Finset.mem_image.mpr ⟨7, Finset.mem_univ _, rfl⟩
  · exact Finset.mem_image.mpr ⟨8, Finset.mem_univ _, rfl⟩
  · exact Finset.mem_image.mpr ⟨9, Finset.mem_univ _, rfl⟩

set_option maxHeartbeats 4000000 in
/-- Every window's array after the region is at `Vp`. -/
theorem arr_all
    (hVp2 : ∀ c, Vp c main_v28_0 = tabIa (V c main_v25) (V c main_v27))
    (hVp3 : ∀ c, Vp c main_v28_1 = tabIb (V c main_v25) (V c main_v27))
    (hVp4 : ∀ c, Vp c main_v28_2 = tabIc (V c main_v25) (V c main_v27))
    (hVp5 : ∀ c, Vp c main_v28_3 = tabId (V c main_v25) (V c main_v27))
    (hVp6 : ∀ c, Vp c main_v28_4 = tabWa (V c main_v25) (V c main_v27))
    (hVp7 : ∀ c, Vp c main_v28_5 = tabWb (V c main_v25) (V c main_v27))
    (hVp8 : ∀ c, Vp c main_v28_6 = tabWc (V c main_v25) (V c main_v27))
    (hVp9 : ∀ c, Vp c main_v28_7 = tabWd (V c main_v25) (V c main_v27))
    (hVp_ne : ∀ c (b : Ref sig .tc), b ∉ outArr → Vp c b = V c b)
    (c : Dev nD) : ∀ w, (dat V c).arrAt w cfg0.N = Vp c (Pipeline.arrRef spec0 w)
  | ⟨0, _⟩ => by
    have h := (dat V c).arrAt_in 0 rfl cfg0.N
    exact h.trans (hVp_ne c main_v25 (by decide)).symm
  | ⟨1, _⟩ => by
    have h := (dat V c).arrAt_in 1 rfl cfg0.N
    exact h.trans (hVp_ne c main_v27 (by decide)).symm
  | ⟨2, _⟩ => (arr_2 V c).trans (hVp2 c).symm
  | ⟨3, _⟩ => (arr_3 V c).trans (hVp3 c).symm
  | ⟨4, _⟩ => (arr_4 V c).trans (hVp4 c).symm
  | ⟨5, _⟩ => (arr_5 V c).trans (hVp5 c).symm
  | ⟨6, _⟩ => (arr_6 V c).trans (hVp6 c).symm
  | ⟨7, _⟩ => (arr_7 V c).trans (hVp7 c).symm
  | ⟨8, _⟩ => (arr_8 V c).trans (hVp8 c).symm
  | ⟨9, _⟩ => (arr_9 V c).trans (hVp9 c).symm

set_option maxHeartbeats 4000000 in
set_option backward.isDefEq.respectTransparency.types false in
/-- The arrays after the region and the rest of the unscoped buffers are the unscoped buffers at `Vp`. -/
theorem join
    (hF : ∀ c w, (dat V c).arrAt w cfg0.N = Vp c (Pipeline.arrRef spec0 w))
    (hVp_ne : ∀ c (b : Ref sig .tc), b ∉ outArr → Vp c b = V c b) (c : Dev nD) :
    iprop((dat V c).arrays ((dat V c).arrAt · cfg0.N) ∗ Pipeline.unscopedRest spec0 c (V c)) ⊢ (unscopedBufs c (Vp c) : sProp 𝕄) :=
  Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((dat V c).arrAt · cfg0.N)
      (hF c) (fun b hb => hVp_ne c b fun h => hb (outArr_arr b h))

set_option maxHeartbeats 4000000 in
set_option backward.isDefEq.respectTransparency.types false in
/-- The region, over every unscoped buffer at `V`, the rest `R` of the state, and the core's `owes`: it leaves the unscoped
    buffers at any `Vp` that has the tables' arrays at the tables and agrees with `V` elsewhere. -/
def reg (R : Dev nD → sProp 𝕄) (hO : ∀ c g, owedT (F := F) c g none = 0)
    (hVp2 : ∀ c, Vp c main_v28_0 = tabIa (V c main_v25) (V c main_v27))
    (hVp3 : ∀ c, Vp c main_v28_1 = tabIb (V c main_v25) (V c main_v27))
    (hVp4 : ∀ c, Vp c main_v28_2 = tabIc (V c main_v25) (V c main_v27))
    (hVp5 : ∀ c, Vp c main_v28_3 = tabId (V c main_v25) (V c main_v27))
    (hVp6 : ∀ c, Vp c main_v28_4 = tabWa (V c main_v25) (V c main_v27))
    (hVp7 : ∀ c, Vp c main_v28_5 = tabWb (V c main_v25) (V c main_v27))
    (hVp8 : ∀ c, Vp c main_v28_6 = tabWc (V c main_v25) (V c main_v27))
    (hVp9 : ∀ c, Vp c main_v28_7 = tabWd (V c main_v25) (V c main_v27))
    (hVp_ne : ∀ c (b : Ref sig .tc), b ∉ outArr → Vp c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ _ _ fun w s t => (K (F := F)).mayWait_none _ (hO c)
  pre c := iprop(unscopedBufs c (V c) ∗ R c ∗ ∃ W, ⌜(K (F := F)).WBelow (T c) W 0⌝ ∗ owes (T c : Thread nD τ) (owedT (F := F) c) W)
  post c := iprop(unscopedBufs c (Vp c) ∗ R c ∗ ∃ W, ⌜(K (F := F)).WBelow (T c) W 0⌝ ∗ owes (T c : Thread nD τ) (owedT (F := F) c) W)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := join V Vp (arr_all V Vp hVp2 hVp3 hVp4 hVp5 hVp6 hVp7 hVp8 hVp9 hVp_ne) hVp_ne c
    iintro ⟨Ha, HO, -, Hrest, HR⟩
    imodintro
    isplitl [Ha Hrest]
    · iapply hjoin; isplitl [Ha]; · iexact Ha
      iexact Hrest
    isplitl [HR]; · iexact HR
    unfold Pipeline.Dat.owesAt Pipeline.owesWithin
    icases HO with ⟨%W, %hW, HO⟩; iexists W; isplitr; · ipureintro; exact fun p hp => bound_le V c _ p (hW hp)
    iexact HO

end Cert.Proof.KernelIdeal
-- ==== Proof.KernelIdeal.Vals.lean ====
/-
  The contents of the unscoped buffers between the parts of @main, as functions of the launch memory: before the
  TensorCore's call, after it, at the SparseCore's call, after that, and at the end; and what they hold at the arrays that
  matter.
-/
module

public import proofs.«01_k».proof.Proof.KernelIdeal.Host
public import proofs.«01_k».proof.Proof.KernelIdeal.Range
public import proofs.«01_k».proof.Proof.KernelIdeal.Region

@[expose] public section

noncomputable section

namespace Cert.Proof.KernelIdeal

open Cert.KernelIdeal Cert.KernelIdeal.Gen Idealize.ShloMosaic Idealize.ShloMosaic.TcCoe Idealize.SL.Sem Idealize.ShloMosaic.StableHlo

variable {F : FTy → Type} [FloatOps F]

/-- Contents changed at one array of the TensorCore. -/
def upd (V0 : Valuation τ sig (Elt F)) (r : Ref sig .tc) (x : (Proc.devRef (τ := τ) .tc r).ty.Contents (Elt F)) : Valuation τ sig (Elt F) :=
  Function.update V0 (Proc.devRef .tc r) x

theorem upd_self (V0 : Valuation τ sig (Elt F)) (r : Ref sig .tc) (x : (Proc.devRef (τ := τ) .tc r).ty.Contents (Elt F)) :
    upd V0 r x (Proc.devRef .tc r) = x := Function.update_self ..
theorem upd_ne (V0 : Valuation τ sig (Elt F)) {r r' : Ref sig .tc} (x : (Proc.devRef (τ := τ) .tc r).ty.Contents (Elt F)) (h : r' ≠ r) :
    upd V0 r x (Proc.devRef .tc r') = V0 (Proc.devRef .tc r') := Function.update_of_ne (fun e => h (Proc.devRef_injective _ e)) ..

/-- After the TensorCore's call: the eight tables of the two coordinates. -/
def tabs (V0 : Valuation τ sig (Elt F)) (x y : Vec F S4x50176 .f32) : Valuation τ sig (Elt F) :=
  upd (upd (upd (upd (upd (upd (upd (upd V0 main_v28_0 (tabIa x y)) main_v28_1 (tabIb x y)) main_v28_2 (tabIc x y)) main_v28_3 (tabId x y))
    main_v28_4 (tabWa x y)) main_v28_5 (tabWb x y)) main_v28_6 (tabWc x y)) main_v28_7 (tabWd x y)

theorem tabs_ne (V0 : Valuation τ sig (Elt F)) (x y : Vec F S4x50176 .f32) (r : Ref sig .tc) (h : r ∉ outArr) :
    tabs V0 x y (Proc.devRef .tc r) = V0 (Proc.devRef .tc r) := by
  simp only [outArr, List.mem_cons, List.not_mem_nil, or_false, not_or] at h
  obtain ⟨h0, h1, h2, h3, h4, h5, h6, h7⟩ := h
  unfold tabs
  rw [upd_ne _ _ h7, upd_ne _ _ h6, upd_ne _ _ h5, upd_ne _ _ h4, upd_ne _ _ h3, upd_ne _ _ h2, upd_ne _ _ h1, upd_ne _ _ h0]

section
variable (V0 : Valuation τ sig (Elt F)) (x y : Vec F S4x50176 .f32)
theorem tabs_0 : tabs V0 x y (Proc.devRef .tc main_v28_0) = tabIa x y := by
  unfold tabs
  rw [upd_ne _ _ (by decide), upd_ne _ _ (by decide), upd_ne _ _ (by decide), upd_ne _ _ (by decide), upd_ne _ _ (by decide), upd_ne _ _ (by decide), upd_ne _ _ (by decide), upd_self]
theorem tabs_1 : tabs V0 x y (Proc.devRef .tc main_v28_1) = tabIb x y := by
  unfold tabs
  rw [upd_ne _ _ (by decide), upd_ne _ _ (by decide), upd_ne _ _ (by decide), upd_ne _ _ (by decide), upd_ne _ _ (by decide), upd_ne _ _ (by decide), upd_self]
theorem tabs_2 : tabs V0 x y (Proc.devRef .tc main_v28_2) = tabIc x y := by
  unfold tabs
  rw [upd_ne _ _ (by decide), upd_ne _ _ (by decide), upd_ne _ _ (by decide), upd_ne _ _ (by decide), upd_ne _ _ (by decide), upd_self]
theorem tabs_3 : tabs V0 x y (Proc.devRef .tc main_v28_3) = tabId x y := by
  unfold tabs
  rw [upd_ne _ _ (by decide), upd_ne _ _ (by decide), upd_ne _ _ (by decide), upd_ne _ _ (by decide), upd_self]
theorem tabs_4 : tabs V0 x y (Proc.devRef .tc main_v28_4) = tabWa x y := by
  unfold tabs
  rw [upd_ne _ _ (by decide), upd_ne _ _ (by decide), upd_ne _ _ (by decide), upd_self]
theorem tabs_5 : tabs V0 x y (Proc.devRef .tc main_v28_5) = tabWb x y := by
  unfold tabs
  rw [upd_ne _ _ (by decide), upd_ne _ _ (by decide), upd_self]
theorem tabs_6 : tabs V0 x y (Proc.devRef .tc main_v28_6) = tabWc x y := by
  unfold tabs
  rw [upd_ne _ _ (by decide), upd_self]
theorem tabs_7 : tabs V0 x y (Proc.devRef .tc main_v28_7) = tabWd x y := by
  unfold tabs
  rw [upd_self]
end

section
variable (V0 : Valuation τ sig (Elt F))

/-- What the SparseCore's call is given, of the launch memory. -/
abbrev inp : Inp F := inpOf (V0 (Proc.devRef .tc main_arg0)) (V0 (Proc.devRef .tc main_arg1))

/-- After the TensorCore's call. -/
def V2 : Valuation τ sig (Elt F) := tabs (pre4 V0) (xsV (V0 (Proc.devRef .tc main_arg1))) (ysV (V0 (Proc.devRef .tc main_arg1)))
/-- At the SparseCore's call. -/
def V3 : Valuation τ sig (Elt F) := after mid (V2 V0)
/-- After the SparseCore's call. -/
def V4 : Valuation τ sig (Elt F) := upd (V3 V0) main_v38 (outV (inp V0))
/-- At the end. -/
def V5 : Valuation τ sig (Elt F) := after post (V4 V0)

theorem V2_arg0 : V2 V0 (Proc.devRef .tc main_arg0) = V0 (Proc.devRef .tc main_arg0) :=
  (tabs_ne _ _ _ _ (by decide)).trans (pre4_keep V0 _ (by decide) (by decide) (by decide) (by decide))
theorem V2_arg1 : V2 V0 (Proc.devRef .tc main_arg1) = V0 (Proc.devRef .tc main_arg1) :=
  (tabs_ne _ _ _ _ (by decide)).trans (pre4_keep V0 _ (by decide) (by decide) (by decide) (by decide))

theorem mid_v29 (W : Valuation τ sig (Elt F)) : after mid W (no_index (Proc.devRef .tc main_v29)) = shapeCast S200704 (W (Proc.devRef .tc main_v28_0)) shapeCasts_S4x50176_S200704 := by
  simp only [mid]; after_results_simp; rfl
theorem mid_v30 (W : Valuation τ sig (Elt F)) : after mid W (no_index (Proc.devRef .tc main_v30)) = shapeCast S200704 (W (Proc.devRef .tc main_v28_1)) shapeCasts_S4x50176_S200704 := by
  simp only [mid]; after_results_simp; rfl
theorem mid_v31 (W : Valuation τ sig (Elt F)) : after mid W (no_index (Proc.devRef .tc main_v31)) = shapeCast S200704 (W (Proc.devRef .tc main_v28_2)) shapeCasts_S4x50176_S200704 := by
  simp only [mid]; after_results_simp; rfl
theorem mid_v32 (W : Valuation τ sig (Elt F)) : after mid W (no_index (Proc.devRef .tc main_v32)) = shapeCast S200704 (W (Proc.devRef .tc main_v28_3)) shapeCasts_S4x50176_S200704 := by
  simp only [mid]; after_results_simp; rfl
theorem mid_v33 (W : Valuation τ sig (Elt F)) : after mid W (no_index (Proc.devRef .tc main_v33)) = shapeCast S200704 (W (Proc.devRef .tc main_v28_4)) shapeCasts_S4x50176_S200704 := by
  simp only [mid]; after_results_simp; rfl
theorem mid_v34 (W : Valuation τ sig (Elt F)) : after mid W (no_index (Proc.devRef .tc main_v34)) = shapeCast S200704 (W (Proc.devRef .tc main_v28_5)) shapeCasts_S4x50176_S200704 := by
  simp only [mid]; after_results_simp; rfl
theorem mid_v35 (W : Valuation τ sig (Elt F)) : after mid W (no_index (Proc.devRef .tc main_v35)) = shapeCast S200704 (W (Proc.devRef .tc main_v28_6)) shapeCasts_S4x50176_S200704 := by
  simp only [mid]; after_results_simp; rfl
theorem mid_v36 (W : Valuation τ sig (Elt F)) : after mid W (no_index (Proc.devRef .tc main_v36)) = shapeCast S200704 (W (Proc.devRef .tc main_v28_7)) shapeCasts_S4x50176_S200704 := by
  simp only [mid]; after_results_simp; rfl
theorem mid_v37 (W : Valuation τ sig (Elt F)) : after mid W (no_index (Proc.devRef .tc main_v37)) = shapeCast S38535168 (W (Proc.devRef .tc main_arg0)) shapeCasts_S4x192x224x224_S38535168 := by
  simp only [mid]; after_results_simp; rfl
theorem post_v39 (W : Valuation τ sig (Elt F)) : after post W (no_index (Proc.devRef .tc main_v39)) = shapeCast S4x192x224x224 (W (Proc.devRef .tc main_v38)) shapeCasts_S38535168_S4x192x224x224 := by
  simp only [post]; after_results_simp; rfl

theorem V3_v37 : V3 V0 (Proc.devRef .tc main_v37) = (inp V0).img :=
  (mid_v37 (V2 V0)).trans (congrArg (fun u : Vec F S4x192x224x224 .f32 => shapeCast S38535168 u shapeCasts_S4x192x224x224_S38535168) (V2_arg0 V0))
theorem V3_v29 : V3 V0 (Proc.devRef .tc main_v29) = (inp V0).ia :=
  (mid_v29 (V2 V0)).trans (congrArg (fun u : Vec F S4x50176 .i32 => shapeCast S200704 u shapeCasts_S4x50176_S200704) (tabs_0 _ _ _))
theorem V3_v30 : V3 V0 (Proc.devRef .tc main_v30) = (inp V0).ib :=
  (mid_v30 (V2 V0)).trans (congrArg (fun u : Vec F S4x50176 .i32 => shapeCast S200704 u shapeCasts_S4x50176_S200704) (tabs_1 _ _ _))
theorem V3_v31 : V3 V0 (Proc.devRef .tc main_v31) = (inp V0).ic :=
  (mid_v31 (V2 V0)).trans (congrArg (fun u : Vec F S4x50176 .i32 => shapeCast S200704 u shapeCasts_S4x50176_S200704) (tabs_2 _ _ _))
theorem V3_v32 : V3 V0 (Proc.devRef .tc main_v32) = (inp V0).id :=
  (mid_v32 (V2 V0)).trans (congrArg (fun u : Vec F S4x50176 .i32 => shapeCast S200704 u shapeCasts_S4x50176_S200704) (tabs_3 _ _ _))
theorem V3_v33 : V3 V0 (Proc.devRef .tc main_v33) = (inp V0).wa :=
  (mid_v33 (V2 V0)).trans (congrArg (fun u : Vec F S4x50176 .f32 => shapeCast S200704 u shapeCasts_S4x50176_S200704) (tabs_4 _ _ _))
theorem V3_v34 : V3 V0 (Proc.devRef .tc main_v34) = (inp V0).wb :=
  (mid_v34 (V2 V0)).trans (congrArg (fun u : Vec F S4x50176 .f32 => shapeCast S200704 u shapeCasts_S4x50176_S200704) (tabs_5 _ _ _))
theorem V3_v35 : V3 V0 (Proc.devRef .tc main_v35) = (inp V0).wc :=
  (mid_v35 (V2 V0)).trans (congrArg (fun u : Vec F S4x50176 .f32 => shapeCast S200704 u shapeCasts_S4x50176_S200704) (tabs_6 _ _ _))
theorem V3_v36 : V3 V0 (Proc.devRef .tc main_v36) = (inp V0).wd :=
  (mid_v36 (V2 V0)).trans (congrArg (fun u : Vec F S4x50176 .f32 => shapeCast S200704 u shapeCasts_S4x50176_S200704) (tabs_7 _ _ _))

theorem V4_v38 : V4 V0 (Proc.devRef .tc main_v38) = outV (inp V0) := upd_self ..
theorem V4_ne (r : Ref sig .tc) (h : r ≠ main_v38) : V4 V0 (Proc.devRef .tc r) = V3 V0 (Proc.devRef .tc r) := upd_ne _ _ h

theorem V5_arg0 : V5 V0 (Proc.devRef .tc main_arg0) = V0 (Proc.devRef .tc main_arg0) :=
  (post_keep _ _ (by decide)).trans ((V4_ne V0 _ (by decide)).trans ((mid_keep _ _ (by decide)).trans (V2_arg0 V0)))
theorem V5_arg1 : V5 V0 (Proc.devRef .tc main_arg1) = V0 (Proc.devRef .tc main_arg1) :=
  (post_keep _ _ (by decide)).trans ((V4_ne V0 _ (by decide)).trans ((mid_keep _ _ (by decide)).trans (V2_arg1 V0)))
/-- The result, of the launch memory. -/
theorem V5_v39 : V5 V0 (Proc.devRef .tc main_v39) = shapeCast S4x192x224x224 (outV (inp V0)) shapeCasts_S38535168_S4x192x224x224 :=
  (post_v39 (V4 V0)).trans (congrArg (fun u : Vec F S38535168 .f32 => shapeCast S4x192x224x224 u shapeCasts_S38535168_S4x192x224x224) (V4_v38 V0))

end

end Cert.Proof.KernelIdeal
-- ==== Proof.KernelIdeal.Off.lean ====
/-
  Where a tile's fetches of the tables start: plane `q` of the image belongs to batch `q / 192`, whose entries begin at
  `50176 (q / 192)`. The kernel divides by the floor division written out with signs and remainders; on the planes'
  numbers it is the division of naturals.
-/
module

public import proofs.«01_k».proof.Proof.KernelIdeal.Spec

@[expose] public section

noncomputable section

namespace Cert.Proof.KernelIdeal

open Cert.KernelIdeal Cert.KernelIdeal.Gen
open Idealize.ShloMosaic

/-- The kernel's floor division by 192. -/
def div192 (v4 : BitVec 32) : BitVec 32 :=
  let v6 : BitVec 1 := Scalar.cmpi .sgt v4 0#32
  let v7 : BitVec 32 := Scalar.extui v6
  let v8 : BitVec 1 := Scalar.cmpi .slt v4 0#32
  let v9 : BitVec 32 := Scalar.extui v8
  let v10 : BitVec 32 := Scalar.subi v7 v9
  let v11 : BitVec 1 := Scalar.cmpi .sgt 192#32 0#32
  let v12 : BitVec 32 := Scalar.extui v11
  let v13 : BitVec 1 := Scalar.cmpi .slt 192#32 0#32
  let v14 : BitVec 32 := Scalar.extui v13
  let v15 : BitVec 32 := Scalar.subi v12 v14
  let v16 : BitVec 1 := Scalar.cmpi .ne v10 v15
  let v17 : BitVec 32 := Scalar.remsi v4 192#32
  let v18 : BitVec 1 := Scalar.cmpi .ne v17 0#32
  let v19 : BitVec 1 := Scalar.andi v16 v18
  let v5 : BitVec 32 := Scalar.divsi v4 192#32
  let v20 : BitVec 32 := Scalar.subi v5 1#32
  Scalar.select v19 v20 v5

theorem div192_eq : ∀ p : Fin 768, div192 (BitVec.ofNat 32 p.val) = BitVec.ofNat 32 (p.val / 192) := by
  decide +kernel

/-- The plane the tile `i` works on in trip `t`. -/
def planeOf (i : grid1.Coords) (t : ℕ) : ℕ := 48 * (i 1).val + 24 * (i 0).val + t

theorem planeOf_lt (i : grid1.Coords) {t : ℕ} (ht : t < 24) : planeOf i t < 768 := by
  have r1 : (i 1).val < 16 := (i 1).isLt
  have r0 : (i 0).val < 2 := (i 0).isLt
  unfold planeOf; omega

theorem isInt_ext {x y : BitVec 32} {e : Int} (hx : Affine.IsInt x e) (hy : Affine.IsInt y e) : x = y := by
  unfold Affine.IsInt at hx hy
  exact BitVec.eq_of_toInt_eq (hx.trans hy.symm)

theorem off2_eq (i : grid1.Coords) (k1_t1 : Fin k1_t1_loop.trips) (k1_t2 : Fin k1_t2_loop.trips) :
    k1_off2 i k1_t1 k1_t2 = ![50176 * (planeOf i k1_t1.val / 192) + 3136 * k1_t2.val] := by
  have r_i1 : (i 1).val < 16 := (i 1).isLt
  have h_arg1 : Affine.IsInt (BitVec.ofNat 32 (i 1).val) (((i 1).val : Int)) := Affine.ofNat _ (by omega)
  have h_v0 : Affine.IsInt _ (2 * ((i 1).val : Int)) := Affine.muli h_arg1 (show Affine.IsInt 2#32 2 from Affine.ofNat _ (by omega)) (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_v3 : Affine.IsInt _ (48 * ((i 1).val : Int) + 24 * ((i 0).val : Int)) := Affine.muli h_v1 (show Affine.IsInt 24#32 24 from Affine.ofNat _ (by omega)) (by omega)
  have h_c0 : Affine.IsInt 0#32 (0) := Affine.ofNat _ (by omega)
  have h_c1 : Affine.IsInt 1#32 (1) := Affine.ofNat _ (by omega)
  have r_t1 : k1_t1.val < 24 := Nat.lt_of_lt_of_le k1_t1.isLt k1_t1_abs.2.1
  have h_arg23 : Affine.IsInt _ ((k1_t1.val : Int)) := Affine.iv h_c0 h_c1 k1_t1.val (by omega)
  have h_v4 : Affine.IsInt _ (48 * ((i 1).val : Int) + 24 * ((i 0).val : Int) + (k1_t1.val : Int)) := Affine.addi h_v3 h_arg23 (by omega)
  have hp := planeOf_lt i r_t1
  have h_p : Affine.IsInt (BitVec.ofNat 32 (planeOf i k1_t1.val)) ((planeOf i k1_t1.val : ℕ) : Int) := Affine.ofNat _ (by omega)
  have e4 := isInt_ext h_v4 (y := BitVec.ofNat 32 (planeOf i k1_t1.val)) (by
    have e : ((planeOf i k1_t1.val : ℕ) : Int) = 48 * ((i 1).val : Int) + 24 * ((i 0).val : Int) + (k1_t1.val : Int) := by
      unfold planeOf; push_cast; rfl
    rw [← e]; exact h_p)
  have h_b : Affine.IsInt (div192 (BitVec.ofNat 32 (planeOf i k1_t1.val))) ((planeOf i k1_t1.val / 192 : ℕ) : Int) := by
    rw [div192_eq ⟨_, hp⟩]; exact Affine.ofNat _ ⟨rfl, by show planeOf i k1_t1.val / 192 < 2 ^ 31; omega⟩
  rw [← e4] at h_b
  have h_v24 : Affine.IsInt _ (50176 * ((planeOf i k1_t1.val / 192 : ℕ) : Int)) := Affine.muli h_b (show Affine.IsInt 50176#32 50176 from Affine.ofNat _ (by omega)) (by omega)
  have r_t2 : k1_t2.val < 16 := Nat.lt_of_lt_of_le k1_t2.isLt k1_t2_abs.2.1
  have h_arg24 : Affine.IsInt _ ((k1_t2.val : Int)) := Affine.iv h_c0 h_c1 k1_t2.val (by omega)
  have h_v25 : Affine.IsInt _ (3136 * (k1_t2.val : Int)) := Affine.muli h_arg24 (show Affine.IsInt 3136#32 3136 from Affine.ofNat _ (by omega)) (by omega)
  have h_v26 : Affine.IsInt _ (50176 * ((planeOf i k1_t1.val / 192 : ℕ) : Int) + 3136 * (k1_t2.val : Int)) := Affine.addi h_v24 h_v25 (by omega)
  exact Affine.vec_cons h_v26 (by omega) <| Affine.vec_nil

theorem off1_eq (i : grid1.Coords) (k1_t1 : Fin k1_t1_loop.trips) : k1_off1 i k1_t1 = ![50176 * planeOf i k1_t1.val] := by
  rw [k1_off1_eq]; congr 1; unfold planeOf; omega

theorem off8_eq (i : grid1.Coords) (k1_t1 : Fin k1_t1_loop.trips) (k1_t2 : Fin k1_t2_loop.trips) :
    k1_off8 i k1_t1 k1_t2 = ![50176 * planeOf i k1_t1.val + 3136 * k1_t2.val] := by
  rw [k1_off8_eq]; congr 1; unfold planeOf; omega

end Cert.Proof.KernelIdeal
-- ==== Proof.KernelIdeal.Inner.lean ====
/-
  The innermost loop of a tile's body: one trip computes sixteen pixels of the chunk — four gathers from the fetched
  plane at the fetched positions, the four products with the fetched weights added from the left — and stores them.
-/
module

public import proofs.«01_k».proof.Proof.KernelIdeal.Off

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the trip's accesses reach -/

/-- Sixteen places from place `16 t` on, as a rectangle of the chunk: its `j`-th place is place `16 t + j`. -/
theorem emb16 {t : ℕ} (ht : t < 196) {off : Fin 1 → ℕ} (ho : off = ![16 * t]) {h : ∀ a, off a + S16.size a ≤ S3136.size a} (j : S16.Idx) :
    (Rect.unit (s := S3136) off S16.size h).emb j = ch (16 * t + (j 0).val) := by
  subst ho
  have hj : (j 0).val < 16 := (j 0).isLt
  refine ext1 ?_
  rw [ch_val (by omega), Rect.emb_apply]
  show 16 * t + 1 * (j 0).val = _
  omega

theorem load16 {α : Type} (f : S3136.Idx → α) {t : ℕ} (ht : t < 196) {off : Fin 1 → ℕ} (ho : off = ![16 * t]) {h : ∀ a, off a + S16.size a ≤ S3136.size a} :
    (fun j : S16.Idx => f ((Rect.unit (s := S3136) off S16.size h).emb j)) = fun j : S16.Idx => f (ch (16 * t + (j 0).val)) :=
  funext fun j => congrArg f (emb16 ht ho j)

/-- The gather from the plane: lane `j` reads the plane at the place its index names. -/
theorem gather16 (f : Vec F S50176 .f32) (v : IVec S16 32) (h : ∀ a x, ((![v] : Fin 1 → IVec S16 32) a x).toNat < S50176.size a) :
    loadIdx (F := F) (e := .f32) (s := S50176) f ![v] h = fun j : S16.Idx => f (pl (v j).toNat) := by
  funext j
  refine congrArg f (ext1 ?_)
  have := h 0 j
  exact (pl_val this).symm

/-- A store of sixteen places leaves the chunk's first `16 (t + 1)` places right when the first `16 t` were. -/
theorem store16 {f g : Vec F S3136 .f32} {t : ℕ} (ht : t < 196) (hf : ∀ j, (j 0).val < 16 * t → f j = g j)
    {w : Vec F S16 .f32} (hw : ∀ j : S16.Idx, w j = g (ch (16 * t + (j 0).val)))
    {off : Fin 1 → ℕ} (ho : off = ![16 * t]) {h : ∀ a, off a + S16.size a ≤ S3136.size a} :
    ∀ j : S3136.Idx, (j 0).val < 16 * (t + 1) →
      ((sO : Memref sig .scVector .vmem S3136 .f32).access (Rect.unit (s := S3136) off S16.size h)).write (Elt F) f w Finset.univ j = g j := by
  intro j hj
  by_cases hlt : (j 0).val < 16 * t
  · rw [View.write_of_not_mem, hf j hlt]
    intro hm
    obtain ⟨y, -, hy⟩ := Finset.mem_map.mp hm
    have e : (Rect.unit (s := S3136) off S16.size h).emb y = j := hy
    rw [emb16 ht ho] at e
    have hy' : (y 0).val < 16 := (y 0).isLt
    have := congrArg (fun i : S3136.Idx => (i 0).val) e
    simp only [ch_val (show 16 * t + (y 0).val < 3136 by omega)] at this
    omega
  · have hj' : (j 0).val < 3136 := (j 0).isLt
    obtain ⟨y, hy⟩ : ∃ y : S16.Idx, (y 0).val = (j 0).val - 16 * t :=
      ⟨fun a => ⟨(j 0).val - 16 * t, by fin_cases a; show (j 0).val - 16 * t < 16; omega⟩, rfl⟩
    have e₀ : ch (16 * t + (y 0).val) = j := ext1 (by rw [ch_val (by omega)]; omega)
    have e : ((sO : Memref sig .scVector .vmem S3136 .f32).access (Rect.unit (s := S3136) off S16.size h)).emb y = j :=
      (emb16 ht ho y).trans e₀
    have hv := View.write_emb_of_mem (v := (sO : Memref sig .scVector .vmem S3136 .f32).access (Rect.unit (s := S3136) off S16.size h))
      f w (Finset.mem_univ y)
    rw [e] at hv
    exact (hv.trans (hw y)).trans (congrArg g e₀)

variable [FloatOps F]

/-- The value a trip stores, lane by lane. -/
theorem pay_apply (v66 v69 v72 v75 v77 v80 v84 v88 : Vec F S16 .f32) (j : S16.Idx) :
    k1_pay1 v66 v69 v72 v75 v77 v80 v84 v88 j
      = FloatOps.addf (FloatOps.addf (FloatOps.addf (FloatOps.mulf (v77 j) (v66 j)) (FloatOps.mulf (v80 j) (v69 j)))
          (FloatOps.mulf (v84 j) (v72 j))) (FloatOps.mulf (v88 j) (v75 j)) := rfl

theorem blend_congr {a a' b b' c c' e e' p p' q q' r r' s s' : F .f32} (ha : a = a') (hb : b = b') (hc : c = c') (he : e = e')
    (hp : p = p') (hq : q = q') (hr : r = r') (hs : s = s') :
    FloatOps.addf (FloatOps.addf (FloatOps.addf (FloatOps.mulf p a) (FloatOps.mulf q b)) (FloatOps.mulf r c)) (FloatOps.mulf s e)
      = FloatOps.addf (FloatOps.addf (FloatOps.addf (FloatOps.mulf p' a') (FloatOps.mulf q' b')) (FloatOps.mulf r' c')) (FloatOps.mulf s' e') := by
  subst ha hb hc he hp hq hr hs; rfl

omit [FloatOps F] in
theorem part_ch {α : Type} (f : S200704.Idx → α) {k₀ t : ℕ} (ht : t < 196) :
    (fun j : S16.Idx => part f k₀ (ch (16 * t + (j 0).val))) = fun j : S16.Idx => f (wi (k₀ + (16 * t + (j 0).val))) := by
  funext j
  have hj : (j 0).val < 16 := (j 0).isLt
  unfold part
  rw [ch_val (by omega)]

omit [FloatOps F] in
theorem part_at {α : Type} (f : S200704.Idx → α) (k₀ : ℕ) {n : ℕ} (hn : n < 3136) : part f k₀ (ch n) = f (wi (k₀ + n)) := by
  unfold part
  rw [ch_val hn]

omit [FloatOps F] in
/-- The whole plane read through its memref is the plane. -/
theorem read_plane (P : Vec F S50176 .f32) : View.read (Elt F) (sP.access (Rect.whole S50176)) P = P := by
  funext j
  refine congrArg P (ext1 ?_)
  show 0 + 1 * (j 0).val = (j 0).val
  omega

theorem trip_value (P : Vec F S50176 .f32) (va vb vc vd : IVec S16 32)
    (ha : ∀ a x, ((![va] : Fin 1 → IVec S16 32) a x).toNat < S50176.size a) (hb : ∀ a x, ((![vb] : Fin 1 → IVec S16 32) a x).toNat < S50176.size a)
    (hc : ∀ a x, ((![vc] : Fin 1 → IVec S16 32) a x).toNat < S50176.size a) (hd : ∀ a x, ((![vd] : Fin 1 → IVec S16 32) a x).toNat < S50176.size a)
    (wa wb wc wd : Vec F S3136 .f32) (t : Fin k1_t3_loop.trips) (ht : t.val < 196) (j : S16.Idx) :
    k1_pay1 (F := F) (loadIdx (View.read (Elt F) (sP.access (Rect.whole S50176)) P) ![va] ha) (loadIdx (View.read (Elt F) (sP.access (Rect.whole S50176)) P) ![vb] hb)
        (loadIdx (View.read (Elt F) (sP.access (Rect.whole S50176)) P) ![vc] hc) (loadIdx (View.read (Elt F) (sP.access (Rect.whole S50176)) P) ![vd] hd)
        (sWa.view.readAt (Elt F) (Rect.unit (s := S3136) (k1_off7 t) S16.size (k1_off7_inb t)).toLoadRect wa)
        (sWb.view.readAt (Elt F) (Rect.unit (s := S3136) (k1_off7 t) S16.size (k1_off7_inb t)).toLoadRect wb)
        (sWc.view.readAt (Elt F) (Rect.unit (s := S3136) (k1_off7 t) S16.size (k1_off7_inb t)).toLoadRect wc)
        (sWd.view.readAt (Elt F) (Rect.unit (s := S3136) (k1_off7 t) S16.size (k1_off7_inb t)).toLoadRect wd) j
      = FloatOps.addf (FloatOps.addf (FloatOps.addf
          (FloatOps.mulf (wa (ch (16 * t.val + (j 0).val))) (P (pl (va j).toNat))) (FloatOps.mulf (wb (ch (16 * t.val + (j 0).val))) (P (pl (vb j).toNat))))
          (FloatOps.mulf (wc (ch (16 * t.val + (j 0).val))) (P (pl (vc j).toNat)))) (FloatOps.mulf (wd (ch (16 * t.val + (j 0).val))) (P (pl (vd j).toNat))) := by
  rw [pay_apply, read_plane]
  exact blend_congr (congrFun (gather16 P va ha) j) (congrFun (gather16 P vb hb) j) (congrFun (gather16 P vc hc) j) (congrFun (gather16 P vd hd) j)
    (congrArg wa (emb16 ht (k1_off7_eq t) j)) (congrArg wb (emb16 ht (k1_off7_eq t) j))
    (congrArg wc (emb16 ht (k1_off7_eq t) j)) (congrArg wd (emb16 ht (k1_off7_eq t) j))

omit [FloatOps F] in
theorem in_plane (v : IVec S16 32) (h : ∀ j, (v j).toNat < 50176) : ∀ a x, ((![v] : Fin 1 → IVec S16 32) a x).toNat < S50176.size a := by
  intro a j
  have : a = 0 := Subsingleton.elim _ _
  subst this
  exact h j

omit [FloatOps F] in
/-- A gather from plane `q` at entry `k` of a table is the image element the table names. -/
theorem tap_plane (x : Inp F) (q k : ℕ) (t : IVec S200704 32) (ht : ∀ k, (t k).toNat < 50176) :
    plane x q (pl (t (wi k)).toNat) = tap x q t k := by
  unfold plane tap
  rw [pl_val (ht _)]

/-! ## The trip -/

section Trip

variable (d : Dev nD) (L : grid1.Coords)

/-- What the loop holds: the plane and the eight chunks fetched, the result chunk filled up to place `16 t`. -/
def innerInv (x : Inp F) (q c : ℕ) (t : ℕ) (_ : PUnit) : sProp 𝕄 :=
  iprop((sP.view.loc (thr d L) ↦{fullShare} plane x q)
    ∗ (sIa.view.loc (thr d L) ↦{fullShare} part x.ia (50176 * (q / 192) + 3136 * c))
    ∗ (sIb.view.loc (thr d L) ↦{fullShare} part x.ib (50176 * (q / 192) + 3136 * c))
    ∗ (sIc.view.loc (thr d L) ↦{fullShare} part x.ic (50176 * (q / 192) + 3136 * c))
    ∗ (sId.view.loc (thr d L) ↦{fullShare} part x.id (50176 * (q / 192) + 3136 * c))
    ∗ (sWa.view.loc (thr d L) ↦{fullShare} part x.wa (50176 * (q / 192) + 3136 * c))
    ∗ (sWb.view.loc (thr d L) ↦{fullShare} part x.wb (50176 * (q / 192) + 3136 * c))
    ∗ (sWc.view.loc (thr d L) ↦{fullShare} part x.wc (50176 * (q / 192) + 3136 * c))
    ∗ (sWd.view.loc (thr d L) ↦{fullShare} part x.wd (50176 * (q / 192) + 3136 * c))
    ∗ ∃ f : Vec F S3136 .f32, ⌜∀ j, (j 0).val < 16 * t → f j = chunk x q c j⌝ ∗ (sO.view.loc (thr d L) ↦{fullShare} f))

set_option maxHeartbeats 4000000 in
theorem inner_trip (x : Inp F) (hx : x.InRange) (q c : ℕ) (k1_t1 : Fin k1_t1_loop.trips) (v21 z o : BitVec 32) (k1_t2 : Fin k1_t2_loop.trips)
    (k1_t3 : Fin k1_t3_loop.trips) (u : PUnit) :
    innerInv d L x q c k1_t3.val u
      ⊢ wp frame (wpE (defs₀ (F := F)) 𝒱₀ (thr d L) none) Set.univ
          (k1_t3_body L mImg (Memref.isWhole_whole _) mIa (Memref.isWhole_whole _) mIb (Memref.isWhole_whole _) mIc (Memref.isWhole_whole _) mId (Memref.isWhole_whole _)
            mWa (Memref.isWhole_whole _) mWb (Memref.isWhole_whole _) mWc (Memref.isWhole_whole _) mWd (Memref.isWhole_whole _) mOut (Memref.isWhole_whole _)
            sP (Memref.isWhole_whole _) sIa (Memref.isWhole_whole _) sIb (Memref.isWhole_whole _) sIc (Memref.isWhole_whole _) sId (Memref.isWhole_whole _)
            sWa (Memref.isWhole_whole _) sWb (Memref.isWhole_whole _) sWc (Memref.isWhole_whole _) sWd (Memref.isWhole_whole _) sO (Memref.isWhole_whole _)
            cc1_scratch10 cc1_scoped0 cc1_scoped1 k1_t1 v21 z o k1_t2 k1_t3 ⟨⟩)
          (innerInv d L x q c (k1_t3.val + 1)) := by
  have h3 : k1_t3.val < 196 := lt_of_lt_of_le k1_t3.isLt (by decide +kernel)
  unfold innerInv k1_t3_body
  simp only [Prog.lift, Prog.bind_op, Prog.bind_ret, Prog.pure_eq_ret]
  iintro ⟨HP, HIa, HIb, HIc, HId, HWa, HWb, HWc, HWd, %f, %hf, HO⟩
  set k₀ := 50176 * (q / 192) + 3136 * c with hk₀
  set va : IVec S16 32 := fun j => x.ia (wi (k₀ + (16 * k1_t3.val + (j 0).val))) with hva
  set vb : IVec S16 32 := fun j => x.ib (wi (k₀ + (16 * k1_t3.val + (j 0).val))) with hvb
  set vc : IVec S16 32 := fun j => x.ic (wi (k₀ + (16 * k1_t3.val + (j 0).val))) with hvc
  set vd : IVec S16 32 := fun j => x.id (wi (k₀ + (16 * k1_t3.val + (j 0).val))) with hvd
  iapply (wp_load 𝒱₀ (thr d L) none Set.univ (m := sIa) (S := Finset.univ) (Finset.subset_univ _)) $$ HIa; iintro HIa
  rw [show (sIa.view.readAt (Elt F) (Rect.unit (s := S3136) (k1_off3 k1_t3) S16.size (k1_off3_inb k1_t3)).toLoadRect (part x.ia k₀)) = va from
    (load16 (part x.ia k₀) h3 (k1_off3_eq k1_t3)).trans (part_ch x.ia h3)]
  rw [wp_assume_of _ _ _ _ (show k1_chk1 va from in_plane _ fun j => hx.a _)]
  iapply (SparseCore.wp_vectorLoadIdx 𝒱₀ (thr d L) none Set.univ (base := sP) (S := Finset.univ) (q := fullShare) (Finset.subset_univ _)) $$ HP; iintro HP
  iapply (wp_load 𝒱₀ (thr d L) none Set.univ (m := sIb) (S := Finset.univ) (Finset.subset_univ _)) $$ HIb; iintro HIb
  rw [show (sIb.view.readAt (Elt F) (Rect.unit (s := S3136) (k1_off4 k1_t3) S16.size (k1_off4_inb k1_t3)).toLoadRect (part x.ib k₀)) = vb from
    (load16 (part x.ib k₀) h3 (k1_off4_eq k1_t3)).trans (part_ch x.ib h3)]
  rw [wp_assume_of _ _ _ _ (show k1_chk2 vb from in_plane _ fun j => hx.b _)]
  iapply (SparseCore.wp_vectorLoadIdx 𝒱₀ (thr d L) none Set.univ (base := sP) (S := Finset.univ) (q := fullShare) (Finset.subset_univ _)) $$ HP; iintro HP
  iapply (wp_load 𝒱₀ (thr d L) none Set.univ (m := sIc) (S := Finset.univ) (Finset.subset_univ _)) $$ HIc; iintro HIc
  rw [show (sIc.view.readAt (Elt F) (Rect.unit (s := S3136) (k1_off5 k1_t3) S16.size (k1_off5_inb k1_t3)).toLoadRect (part x.ic k₀)) = vc from
    (load16 (part x.ic k₀) h3 (k1_off5_eq k1_t3)).trans (part_ch x.ic h3)]
  rw [wp_assume_of _ _ _ _ (show k1_chk3 vc from in_plane _ fun j => hx.c _)]
  iapply (SparseCore.wp_vectorLoadIdx 𝒱₀ (thr d L) none Set.univ (base := sP) (S := Finset.univ) (q := fullShare) (Finset.subset_univ _)) $$ HP; iintro HP
  iapply (wp_load 𝒱₀ (thr d L) none Set.univ (m := sId) (S := Finset.univ) (Finset.subset_univ _)) $$ HId; iintro HId
  rw [show (sId.view.readAt (Elt F) (Rect.unit (s := S3136) (k1_off6 k1_t3) S16.size (k1_off6_inb k1_t3)).toLoadRect (part x.id k₀)) = vd from
    (load16 (part x.id k₀) h3 (k1_off6_eq k1_t3)).trans (part_ch x.id h3)]
  rw [wp_assume_of _ _ _ _ (show k1_chk4 vd from in_plane _ fun j => hx.d _)]
  iapply (SparseCore.wp_vectorLoadIdx 𝒱₀ (thr d L) none Set.univ (base := sP) (S := Finset.univ) (q := fullShare) (Finset.subset_univ _)) $$ HP; iintro HP
  iapply (wp_load 𝒱₀ (thr d L) none Set.univ (m := sWa) (S := Finset.univ) (Finset.subset_univ _)) $$ HWa; iintro HWa
  iapply (wp_load 𝒱₀ (thr d L) none Set.univ (m := sWb) (S := Finset.univ) (Finset.subset_univ _)) $$ HWb; iintro HWb
  iapply (wp_load 𝒱₀ (thr d L) none Set.univ (m := sWc) (S := Finset.univ) (Finset.subset_univ _)) $$ HWc; iintro HWc
  iapply (wp_load 𝒱₀ (thr d L) none Set.univ (m := sWd) (S := Finset.univ) (Finset.subset_univ _)) $$ HWd; iintro HWd
  iapply (wp_load 𝒱₀ (thr d L) none Set.univ (m := sO) (S := Finset.univ) (Finset.subset_univ _)) $$ HO; iintro HO
  iapply (wp_store 𝒱₀ (thr d L) none Set.univ (m := sO) (r := Rect.unit (s := S3136) (k1_off7 k1_t3) S16.size (k1_off7_inb k1_t3)) (Mk := Finset.univ) (S := Finset.univ) (Finset.subset_univ _)) $$ HO; iintro HO
  rw [wp_ret]; imodintro
  isplitl [HP]; · iexact HP
  isplitl [HIa]; · iexact HIa
  isplitl [HIb]; · iexact HIb
  isplitl [HIc]; · iexact HIc
  isplitl [HId]; · iexact HId
  isplitl [HWa]; · iexact HWa
  isplitl [HWb]; · iexact HWb
  isplitl [HWc]; · iexact HWc
  isplitl [HWd]; · iexact HWd
  iexists _; isplitr
  rotate_left
  · iexact HO
  ipureintro
  refine store16 (g := chunk x q c) h3 hf (fun j => ?_) (k1_off7_eq k1_t3) (h := k1_off7_inb k1_t3)
  refine (trip_value (plane x q) va vb vc vd _ _ _ _ (part x.wa k₀) (part x.wb k₀) (part x.wc k₀) (part x.wd k₀) k1_t3 h3 j).trans ?_
  have hj : (j 0).val < 16 := (j 0).isLt
  have hk : 50176 * (q / 192) + (3136 * c + (16 * k1_t3.val + (j 0).val)) = k₀ + (16 * k1_t3.val + (j 0).val) := by omega
  unfold chunk blend
  rw [ch_val (by omega), hk]
  refine blend_congr (tap_plane x q _ x.ia hx.a) (tap_plane x q _ x.ib hx.b) (tap_plane x q _ x.ic hx.c) (tap_plane x q _ x.id hx.d)
    (part_at x.wa _ (by omega)) (part_at x.wb _ (by omega)) (part_at x.wc _ (by omega)) (part_at x.wd _ (by omega))

end Trip

end Cert.Proof.KernelIdeal
-- ==== Proof.KernelIdeal.Chunk.lean ====
/-
  The middle loop of a tile's body, fetch and compute: eight copies started on one semaphore bring one chunk of each
  table into the tile's own memory, eight waits take them back, and the innermost loop fills the result chunk.
-/
module

public import proofs.«01_k».proof.Proof.KernelIdeal.Inner

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The chunk of a table a trip fetches -/

/-- The rectangle of a table a trip fetches. -/
abbrev tRect (i : grid1.Coords) (t1 : Fin k1_t1_loop.trips) (t2 : Fin k1_t2_loop.trips) : Rect S200704 :=
  Rect.unit (s := S200704) (k1_off2 i t1 t2) S3136.size (k1_off2_inb i t1 t2)

/-- The first entry a trip fetches. -/
def entry0 (i : grid1.Coords) (t1 t2 : ℕ) : ℕ := 50176 * (planeOf i t1 / 192) + 3136 * t2

theorem tRect_emb (i : grid1.Coords) (t1 : Fin k1_t1_loop.trips) (t2 : Fin k1_t2_loop.trips) (j : S3136.Idx) :
    (tRect i t1 t2).emb j = wi (entry0 i t1.val t2.val + (j 0).val) := by
  have h1 : t1.val < 24 := Nat.lt_of_lt_of_le t1.isLt k1_t1_abs.2.1
  have h2 : t2.val < 16 := Nat.lt_of_lt_of_le t2.isLt k1_t2_abs.2.1
  have hp := planeOf_lt i h1
  have hj : (j 0).val < 3136 := (j 0).isLt
  refine ext1 ?_
  rw [Rect.emb_apply, wi_val (by unfold entry0; omega)]
  show k1_off2 i t1 t2 0 + 1 * (j 0).val = _
  rw [off2_eq]
  show 50176 * (planeOf i t1.val / 192) + 3136 * t2.val + 1 * (j 0).val = _
  unfold entry0; omega

theorem tRect_read {α : Type} (f : S200704.Idx → α) (i : grid1.Coords) (t1 : Fin k1_t1_loop.trips) (t2 : Fin k1_t2_loop.trips) :
    (fun j : S3136.Idx => f ((tRect i t1 t2).emb j)) = part f (entry0 i t1.val t2.val) :=
  funext fun j => congrArg f (tRect_emb i t1 t2 j)

section Trip

variable (d : Dev nD) (L : grid1.Coords)

/-- The chunk of `ia` a trip fetches, as the copy names it. -/
abbrev fIa (t1 : Fin k1_t1_loop.trips) (t2 : Fin k1_t2_loop.trips) : Memref sig .scVector .hbm S3136 .i32 := mIa.slice (tRect L t1 t2) (fun _ => rfl)
/-- The chunk of `ib` a trip fetches, as the copy names it. -/
abbrev fIb (t1 : Fin k1_t1_loop.trips) (t2 : Fin k1_t2_loop.trips) : Memref sig .scVector .hbm S3136 .i32 := mIb.slice (tRect L t1 t2) (fun _ => rfl)
/-- The chunk of `ic` a trip fetches, as the copy names it. -/
abbrev fIc (t1 : Fin k1_t1_loop.trips) (t2 : Fin k1_t2_loop.trips) : Memref sig .scVector .hbm S3136 .i32 := mIc.slice (tRect L t1 t2) (fun _ => rfl)
/-- The chunk of `id` a trip fetches, as the copy names it. -/
abbrev fId (t1 : Fin k1_t1_loop.trips) (t2 : Fin k1_t2_loop.trips) : Memref sig .scVector .hbm S3136 .i32 := mId.slice (tRect L t1 t2) (fun _ => rfl)
/-- The chunk of `wa` a trip fetches, as the copy names it. -/
abbrev fWa (t1 : Fin k1_t1_loop.trips) (t2 : Fin k1_t2_loop.trips) : Memref sig .scVector .hbm S3136 .f32 := mWa.slice (tRect L t1 t2) (fun _ => rfl)
/-- The chunk of `wb` a trip fetches, as the copy names it. -/
abbrev fWb (t1 : Fin k1_t1_loop.trips) (t2 : Fin k1_t2_loop.trips) : Memref sig .scVector .hbm S3136 .f32 := mWb.slice (tRect L t1 t2) (fun _ => rfl)
/-- The chunk of `wc` a trip fetches, as the copy names it. -/
abbrev fWc (t1 : Fin k1_t1_loop.trips) (t2 : Fin k1_t2_loop.trips) : Memref sig .scVector .hbm S3136 .f32 := mWc.slice (tRect L t1 t2) (fun _ => rfl)
/-- The chunk of `wd` a trip fetches, as the copy names it. -/
abbrev fWd (t1 : Fin k1_t1_loop.trips) (t2 : Fin k1_t2_loop.trips) : Memref sig .scVector .hbm S3136 .f32 := mWd.slice (tRect L t1 t2) (fun _ => rfl)

variable [FloatOps F]

/-! ## What the fetches deliver -/

variable (x : Inp F) (q : PosShare TreeShare)

/-- The copy of the chunk of `ia` lands the chunk. -/
theorem landIa (f : IVec S200704 32) (g : IVec S3136 32) (t1 : Fin k1_t1_loop.trips) (t2 : Fin k1_t2_loop.trips) :
    (sIa.view.write (Elt F) g ((fIa L t1 t2).view.read (Elt F) f) Finset.univ) = part f (entry0 L t1.val t2.val) :=
  (View.write_whole_univ _ _ _).trans (tRect_read f L t1 t2)

/-- The copy of the chunk of `ib` lands the chunk. -/
theorem landIb (f : IVec S200704 32) (g : IVec S3136 32) (t1 : Fin k1_t1_loop.trips) (t2 : Fin k1_t2_loop.trips) :
    (sIb.view.write (Elt F) g ((fIb L t1 t2).view.read (Elt F) f) Finset.univ) = part f (entry0 L t1.val t2.val) :=
  (View.write_whole_univ _ _ _).trans (tRect_read f L t1 t2)

/-- The copy of the chunk of `ic` lands the chunk. -/
theorem landIc (f : IVec S200704 32) (g : IVec S3136 32) (t1 : Fin k1_t1_loop.trips) (t2 : Fin k1_t2_loop.trips) :
    (sIc.view.write (Elt F) g ((fIc L t1 t2).view.read (Elt F) f) Finset.univ) = part f (entry0 L t1.val t2.val) :=
  (View.write_whole_univ _ _ _).trans (tRect_read f L t1 t2)

/-- The copy of the chunk of `id` lands the chunk. -/
theorem landId (f : IVec S200704 32) (g : IVec S3136 32) (t1 : Fin k1_t1_loop.trips) (t2 : Fin k1_t2_loop.trips) :
    (sId.view.write (Elt F) g ((fId L t1 t2).view.read (Elt F) f) Finset.univ) = part f (entry0 L t1.val t2.val) :=
  (View.write_whole_univ _ _ _).trans (tRect_read f L t1 t2)

/-- The copy of the chunk of `wa` lands the chunk. -/
theorem landWa (f : Vec F S200704 .f32) (g : Vec F S3136 .f32) (t1 : Fin k1_t1_loop.trips) (t2 : Fin k1_t2_loop.trips) :
    (sWa.view.write (Elt F) g ((fWa L t1 t2).view.read (Elt F) f) Finset.univ) = part f (entry0 L t1.val t2.val) :=
  (View.write_whole_univ _ _ _).trans (tRect_read f L t1 t2)

/-- The copy of the chunk of `wb` lands the chunk. -/
theorem landWb (f : Vec F S200704 .f32) (g : Vec F S3136 .f32) (t1 : Fin k1_t1_loop.trips) (t2 : Fin k1_t2_loop.trips) :
    (sWb.view.write (Elt F) g ((fWb L t1 t2).view.read (Elt F) f) Finset.univ) = part f (entry0 L t1.val t2.val) :=
  (View.write_whole_univ _ _ _).trans (tRect_read f L t1 t2)

/-- The copy of the chunk of `wc` lands the chunk. -/
theorem landWc (f : Vec F S200704 .f32) (g : Vec F S3136 .f32) (t1 : Fin k1_t1_loop.trips) (t2 : Fin k1_t2_loop.trips) :
    (sWc.view.write (Elt F) g ((fWc L t1 t2).view.read (Elt F) f) Finset.univ) = part f (entry0 L t1.val t2.val) :=
  (View.write_whole_univ _ _ _).trans (tRect_read f L t1 t2)

/-- The copy of the chunk of `wd` lands the chunk. -/
theorem landWd (f : Vec F S200704 .f32) (g : Vec F S3136 .f32) (t1 : Fin k1_t1_loop.trips) (t2 : Fin k1_t2_loop.trips) :
    (sWd.view.write (Elt F) g ((fWd L t1 t2).view.read (Elt F) f) Finset.univ) = part f (entry0 L t1.val t2.val) :=
  (View.write_whole_univ _ _ _).trans (tRect_read f L t1 t2)

/-- What copy `w` of the eight delivers: the chunk landed, and the read share of the chunk's source back. -/
def deliv (t1 : Fin k1_t1_loop.trips) (t2 : Fin k1_t2_loop.trips) (w : Fin 8) : sProp 𝕄 :=
  match w with
  | 0 => iprop((sIa.view.loc (thr d L) ↦{fullShare} part x.ia (entry0 L t1.val t2.val)) ∗ ((fIa L t1 t2).view.loc (thr d L) ↦[(fIa L t1 t2).view.set]{q} x.ia))
  | 1 => iprop((sIb.view.loc (thr d L) ↦{fullShare} part x.ib (entry0 L t1.val t2.val)) ∗ ((fIb L t1 t2).view.loc (thr d L) ↦[(fIb L t1 t2).view.set]{q} x.ib))
  | 2 => iprop((sIc.view.loc (thr d L) ↦{fullShare} part x.ic (entry0 L t1.val t2.val)) ∗ ((fIc L t1 t2).view.loc (thr d L) ↦[(fIc L t1 t2).view.set]{q} x.ic))
  | 3 => iprop((sId.view.loc (thr d L) ↦{fullShare} part x.id (entry0 L t1.val t2.val)) ∗ ((fId L t1 t2).view.loc (thr d L) ↦[(fId L t1 t2).view.set]{q} x.id))
  | 4 => iprop((sWa.view.loc (thr d L) ↦{fullShare} part x.wa (entry0 L t1.val t2.val)) ∗ ((fWa L t1 t2).view.loc (thr d L) ↦[(fWa L t1 t2).view.set]{q} x.wa))
  | 5 => iprop((sWb.view.loc (thr d L) ↦{fullShare} part x.wb (entry0 L t1.val t2.val)) ∗ ((fWb L t1 t2).view.loc (thr d L) ↦[(fWb L t1 t2).view.set]{q} x.wb))
  | 6 => iprop((sWc.view.loc (thr d L) ↦{fullShare} part x.wc (entry0 L t1.val t2.val)) ∗ ((fWc L t1 t2).view.loc (thr d L) ↦[(fWc L t1 t2).view.set]{q} x.wc))
  | 7 => iprop((sWd.view.loc (thr d L) ↦{fullShare} part x.wd (entry0 L t1.val t2.val)) ∗ ((fWd L t1 t2).view.loc (thr d L) ↦[(fWd L t1 t2).view.set]{q} x.wd))

instance deliv_storable (t1 : Fin k1_t1_loop.trips) (t2 : Fin k1_t2_loop.trips) (w : Fin 8) : BI.Storable (upEmb : UEmb _ 𝕄) (deliv d L x q t1 t2 w) := by
  fin_cases w <;> (unfold deliv; infer_instance)

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = insert 0 (insert 1 (insert 2 (insert 3 (insert 4 (insert 5 (insert 6 {7})))))) from by decide]
  rw [bigSep_insert (by decide), bigSep_insert (by decide), bigSep_insert (by decide), bigSep_insert (by decide), bigSep_insert (by decide),
    bigSep_insert (by decide), bigSep_insert (by decide), bigSep_singleton]
  rfl

/-- The tile's read shares of the eight tables. -/
def tables : sProp 𝕄 :=
  iprop((mIa.view.loc (thr d L) ↦{q} x.ia)
    ∗ (mIb.view.loc (thr d L) ↦{q} x.ib)
    ∗ (mIc.view.loc (thr d L) ↦{q} x.ic)
    ∗ (mId.view.loc (thr d L) ↦{q} x.id)
    ∗ (mWa.view.loc (thr d L) ↦{q} x.wa)
    ∗ (mWb.view.loc (thr d L) ↦{q} x.wb)
    ∗ (mWc.view.loc (thr d L) ↦{q} x.wc)
    ∗ (mWd.view.loc (thr d L) ↦{q} x.wd))

/-- The tile's own buffers for the eight chunks, at any contents. -/
def chunks : sProp 𝕄 :=
  iprop((∃ f, sIa.view.loc (thr d L) ↦{fullShare} f)
    ∗ (∃ f, sIb.view.loc (thr d L) ↦{fullShare} f)
    ∗ (∃ f, sIc.view.loc (thr d L) ↦{fullShare} f)
    ∗ (∃ f, sId.view.loc (thr d L) ↦{fullShare} f)
    ∗ (∃ f, sWa.view.loc (thr d L) ↦{fullShare} f)
    ∗ (∃ f, sWb.view.loc (thr d L) ↦{fullShare} f)
    ∗ (∃ f, sWc.view.loc (thr d L) ↦{fullShare} f)
    ∗ (∃ f, sWd.view.loc (thr d L) ↦{fullShare} f))

/-- A wait recorded leaves the waits recorded so far at no call's index. -/
theorem waits_insert {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.mp hp with rfl | hp
  · exact .inr rfl
  · exact h p hp

/-- The eight waits: with the eight copies started, they take back all the copies deliver. -/
theorem waits8 (Dl : Fin 8 → sProp 𝕄) (t1 : Fin k1_t1_loop.trips) (t2 : Fin k1_t2_loop.trips) (N : ℕ) (hN : 0 < N)
    (nIa : sIa.view.dmaCredit = N) (nIb : sIb.view.dmaCredit = N) (nIc : sIc.view.dmaCredit = N) (nId : sId.view.dmaCredit = N) (nWa : sWa.view.dmaCredit = N) (nWb : sWb.view.dmaCredit = N) (nWc : sWc.view.dmaCredit = N) (nWd : sWd.view.dmaCredit = N)
    (O : CellTallies nD τ sig (HIx 1)) (W : Waits sig (HIx 1)) (hO : ∀ g, O g none = 0)
    {hIas : (fIa L t1 t2).view.WordExact} {hIad : sIa.view.WordExact}
    {hIbs : (fIb L t1 t2).view.WordExact} {hIbd : sIb.view.WordExact}
    {hIcs : (fIc L t1 t2).view.WordExact} {hIcd : sIc.view.WordExact}
    {hIds : (fId L t1 t2).view.WordExact} {hIdd : sId.view.WordExact}
    {hWas : (fWa L t1 t2).view.WordExact} {hWad : sWa.view.WordExact}
    {hWbs : (fWb L t1 t2).view.WordExact} {hWbd : sWb.view.WordExact}
    {hWcs : (fWc L t1 t2).view.WordExact} {hWcd : sWc.view.WordExact}
    {hWds : (fWd L t1 t2).view.WordExact} {hWdd : sWd.view.WordExact}
    {Q : BitVec 32 → sProp 𝕄} (k : Prog (TpuEff nD τ sig (Elt F) Λ₀ (thr d L).2) (BitVec 32)) :
    iprop(levAts (K (F := F)).L (K (F := F)).lev ∗ Transfers.Batch (EC (F := F)) (thr d L) (.dma cc1_scratch10.sem) none N Dl 8 0 ∗ owes (thr d L) O W)
      ⊢ iprop((iprop(bigSep Finset.univ Dl ∗ semVal (thr d L, SemLoc.dma cc1_scratch10.sem) 0 ∗ ∃ W', ⌜∀ p ∈ W', p ∈ W ∨ p.2 = none⌝ ∗ owes (thr d L) O W')
            -∗ wp frame (wpE (defs₀ (F := F)) 𝒱₀ (thr d L) none) Set.univ k Q)
        -∗ wp frame (wpE (defs₀ (F := F)) 𝒱₀ (thr d L) none) Set.univ (.op (.waitDma2 cc1_scratch10.sem (fIa L t1 t2) sIa hIas hIad) fun _ => (.op (.waitDma2 cc1_scratch10.sem (fIb L t1 t2) sIb hIbs hIbd) fun _ => (.op (.waitDma2 cc1_scratch10.sem (fIc L t1 t2) sIc hIcs hIcd) fun _ => (.op (.waitDma2 cc1_scratch10.sem (fId L t1 t2) sId hIds hIdd) fun _ => (.op (.waitDma2 cc1_scratch10.sem (fWa L t1 t2) sWa hWas hWad) fun _ => (.op (.waitDma2 cc1_scratch10.sem (fWb L t1 t2) sWb hWbs hWbd) fun _ => (.op (.waitDma2 cc1_scratch10.sem (fWc L t1 t2) sWc hWcs hWcd) fun _ => (.op (.waitDma2 cc1_scratch10.sem (fWd L t1 t2) sWd hWds hWdd) fun _ => k)))))))) Q) := by
  iintro ⟨#Hlv, HB, Ho⟩ Hk
  iapply (Transfers.wp_waitBatchO (EC (F := F)) 𝒱₀ (thr d L) none none (dstw := sIa) nIa (D := Dl) (u := 0) (by omega) (O := O)) $$ [HB Ho]
  · isplitl [HB]; · iexact HB
    isplitl [Ho]; · iexact Ho
    iapply ((K (F := F)).mayWait_none (SemLoc.dma cc1_scratch10.sem) hO); iexact Hlv
  iintro ⟨HB, Ho⟩
  iapply (Transfers.wp_waitBatchO (EC (F := F)) 𝒱₀ (thr d L) none none (dstw := sIb) nIb (D := Dl) (u := 0 + N) (by omega) (O := O)) $$ [HB Ho]
  · isplitl [HB]; · iexact HB
    isplitl [Ho]; · iexact Ho
    iapply ((K (F := F)).mayWait_none (SemLoc.dma cc1_scratch10.sem) hO); iexact Hlv
  iintro ⟨HB, Ho⟩
  iapply (Transfers.wp_waitBatchO (EC (F := F)) 𝒱₀ (thr d L) none none (dstw := sIc) nIc (D := Dl) (u := 0 + N + N) (by omega) (O := O)) $$ [HB Ho]
  · isplitl [HB]; · iexact HB
    isplitl [Ho]; · iexact Ho
    iapply ((K (F := F)).mayWait_none (SemLoc.dma cc1_scratch10.sem) hO); iexact Hlv
  iintro ⟨HB, Ho⟩
  iapply (Transfers.wp_waitBatchO (EC (F := F)) 𝒱₀ (thr d L) none none (dstw := sId) nId (D := Dl) (u := 0 + N + N + N) (by omega) (O := O)) $$ [HB Ho]
  · isplitl [HB]; · iexact HB
    isplitl [Ho]; · iexact Ho
    iapply ((K (F := F)).mayWait_none (SemLoc.dma cc1_scratch10.sem) hO); iexact Hlv
  iintro ⟨HB, Ho⟩
  iapply (Transfers.wp_waitBatchO (EC (F := F)) 𝒱₀ (thr d L) none none (dstw := sWa) nWa (D := Dl) (u := 0 + N + N + N + N) (by omega) (O := O)) $$ [HB Ho]
  · isplitl [HB]; · iexact HB
    isplitl [Ho]; · iexact Ho
    iapply ((K (F := F)).mayWait_none (SemLoc.dma cc1_scratch10.sem) hO); iexact Hlv
  iintro ⟨HB, Ho⟩
  iapply (Transfers.wp_waitBatchO (EC (F := F)) 𝒱₀ (thr d L) none none (dstw := sWb) nWb (D := Dl) (u := 0 + N + N + N + N + N) (by omega) (O := O)) $$ [HB Ho]
  · isplitl [HB]; · iexact HB
    isplitl [Ho]; · iexact Ho
    iapply ((K (F := F)).mayWait_none (SemLoc.dma cc1_scratch10.sem) hO); iexact Hlv
  iintro ⟨HB, Ho⟩
  iapply (Transfers.wp_waitBatchO (EC (F := F)) 𝒱₀ (thr d L) none none (dstw := sWc) nWc (D := Dl) (u := 0 + N + N + N + N + N + N) (by omega) (O := O)) $$ [HB Ho]
  · isplitl [HB]; · iexact HB
    isplitl [Ho]; · iexact Ho
    iapply ((K (F := F)).mayWait_none (SemLoc.dma cc1_scratch10.sem) hO); iexact Hlv
  iintro ⟨HB, Ho⟩
  iapply (Transfers.wp_waitBatchLastO (EC (F := F)) 𝒱₀ (thr d L) none none (dstw := sWd) nWd hN (D := Dl) (u := 0 + N + N + N + N + N + N + N) (by omega) (O := O)) $$ [HB Ho]
  · isplitl [HB]; · iexact HB
    isplitl [Ho]; · iexact Ho
    iapply ((K (F := F)).mayWait_none (SemLoc.dma cc1_scratch10.sem) hO); iexact Hlv
  iintro ⟨HD, Hsem, Ho⟩
  iapply Hk
  isplitl [HD]; · iexact HD
  isplitl [Hsem]; · iexact Hsem
  iexists _; isplitr
  rotate_left
  · iexact Ho
  ipureintro
  exact waits_insert (waits_insert (waits_insert (waits_insert (waits_insert (waits_insert (waits_insert (waits_insert (fun p hp => .inl hp) _) _) _) _) _) _) _) _

/-- The amount each of the eight copies adds to the semaphore. -/
abbrev NT : ℕ := sIa.view.dmaCredit
omit [FloatOps F] in
theorem NT_pos : 0 < NT := View.dmaCredit_pos _ (by decide)

set_option maxHeartbeats 4000000 in
theorem fetch (hx : x.InRange) (O : CellTallies nD τ sig (HIx 1)) (W : Waits sig (HIx 1)) (hO : ∀ g, O g none = 0)
    (t1 : Fin k1_t1_loop.trips) (v21 z o : BitVec 32) (t2 : Fin k1_t2_loop.trips) {Q : BitVec 32 → sProp 𝕄} :
    iprop(levAts (K (F := F)).L (K (F := F)).lev ∗ (sP.view.loc (thr d L) ↦{fullShare} plane x (planeOf L t1.val)) ∗ tables d L x q ∗ chunks d L
        ∗ (∃ f, sO.view.loc (thr d L) ↦{fullShare} f) ∗ semVal (thr d L, SemLoc.dma cc1_scratch10.sem) 0 ∗ owes (thr d L) O W)
      ⊢ iprop((∀ v, iprop(innerInv d L x (planeOf L t1.val) t2.val 196 ⟨⟩ ∗ tables d L x q ∗ semVal (thr d L, SemLoc.dma cc1_scratch10.sem) 0
            ∗ ∃ W', ⌜∀ p ∈ W', p ∈ W ∨ p.2 = none⌝ ∗ owes (thr d L) O W') -∗ Q v)
        -∗ wp frame (wpE (defs₀ (F := F)) 𝒱₀ (thr d L) none) Set.univ
          (k1_part1 L mImg (Memref.isWhole_whole _) mIa (Memref.isWhole_whole _) mIb (Memref.isWhole_whole _) mIc (Memref.isWhole_whole _) mId (Memref.isWhole_whole _)
            mWa (Memref.isWhole_whole _) mWb (Memref.isWhole_whole _) mWc (Memref.isWhole_whole _) mWd (Memref.isWhole_whole _) mOut (Memref.isWhole_whole _)
            sP (Memref.isWhole_whole _) sIa (Memref.isWhole_whole _) sIb (Memref.isWhole_whole _) sIc (Memref.isWhole_whole _) sId (Memref.isWhole_whole _)
            sWa (Memref.isWhole_whole _) sWb (Memref.isWhole_whole _) sWc (Memref.isWhole_whole _) sWd (Memref.isWhole_whole _) sO (Memref.isWhole_whole _)
            cc1_scratch10 cc1_scoped0 cc1_scoped1 t1 v21 z o t2) Q) := by
  have e0 : 50176 * (planeOf L t1.val / 192) + 3136 * t2.val = entry0 L t1.val t2.val := rfl
  rw [k1_part1_eq_skeleton]
  unfold k1_part1_skel tables chunks
  simp only [Prog.lift, Prog.bind_op, Prog.bind_ret, Prog.pure_eq_ret]
  iintro ⟨#Hlv, HP, ⟨TIa, TIb, TIc, TId, TWa, TWb, TWc, TWd⟩, ⟨⟨%gIa, CIa⟩, ⟨%gIb, CIb⟩, ⟨%gIc, CIc⟩, ⟨%gId, CId⟩, ⟨%gWa, CWa⟩, ⟨%gWb, CWb⟩, ⟨%gWc, CWc⟩, ⟨%gWd, CWd⟩⟩, HO, Hsem, Ho⟩ Hk
  ihave TIa' := (pointsTo_split_subset (ℓ := mIa.view.loc (thr d L)) (q := q) (f := x.ia) (Finset.subset_univ (fIa L t1 t2).view.set)).1 $$ TIa
  icases TIa' with ⟨TIa, RIa⟩
  ihave TIb' := (pointsTo_split_subset (ℓ := mIb.view.loc (thr d L)) (q := q) (f := x.ib) (Finset.subset_univ (fIb L t1 t2).view.set)).1 $$ TIb
  icases TIb' with ⟨TIb, RIb⟩
  ihave TIc' := (pointsTo_split_subset (ℓ := mIc.view.loc (thr d L)) (q := q) (f := x.ic) (Finset.subset_univ (fIc L t1 t2).view.set)).1 $$ TIc
  icases TIc' with ⟨TIc, RIc⟩
  ihave TId' := (pointsTo_split_subset (ℓ := mId.view.loc (thr d L)) (q := q) (f := x.id) (Finset.subset_univ (fId L t1 t2).view.set)).1 $$ TId
  icases TId' with ⟨TId, RId⟩
  ihave TWa' := (pointsTo_split_subset (ℓ := mWa.view.loc (thr d L)) (q := q) (f := x.wa) (Finset.subset_univ (fWa L t1 t2).view.set)).1 $$ TWa
  icases TWa' with ⟨TWa, RWa⟩
  ihave TWb' := (pointsTo_split_subset (ℓ := mWb.view.loc (thr d L)) (q := q) (f := x.wb) (Finset.subset_univ (fWb L t1 t2).view.set)).1 $$ TWb
  icases TWb' with ⟨TWb, RWb⟩
  ihave TWc' := (pointsTo_split_subset (ℓ := mWc.view.loc (thr d L)) (q := q) (f := x.wc) (Finset.subset_univ (fWc L t1 t2).view.set)).1 $$ TWc
  icases TWc' with ⟨TWc, RWc⟩
  ihave TWd' := (pointsTo_split_subset (ℓ := mWd.view.loc (thr d L)) (q := q) (f := x.wd) (Finset.subset_univ (fWd L t1 t2).view.set)).1 $$ TWd
  icases TWd' with ⟨TWd, RWd⟩
  imod (Transfers.batch_alloc' (Lvl := ℕ) (EC (F := F)) (thr d L) none NT (deliv d L x q t1 t2) (sm := .dma cc1_scratch10.sem) (E := Set.univ)) $$ Hsem with HB
  iapply (Transfers.wp_dmaBatch (EC (F := F)) 𝒱₀ (thr d L) none (src := fIa L t1 t2) (dst := sIa) (q := q) (fs := x.ia) (fd := gIa) (Sd := Finset.univ)
      (D := deliv d L x q t1 t2) (j := 0) (u := 0) none NT rfl (Finset.subset_univ _) (by decide) (Nat.zero_le _)
      (by rw [ReadAs.apply_same, landIa]; exact .rfl)) $$ [TIa CIa HB]
  · isplitl [TIa]; · iexact TIa
    isplitl [CIa]; · iexact CIa
    iexact HB
  iintro HB
  iapply (Transfers.wp_dmaBatch (EC (F := F)) 𝒱₀ (thr d L) none (src := fIb L t1 t2) (dst := sIb) (q := q) (fs := x.ib) (fd := gIb) (Sd := Finset.univ)
      (D := deliv d L x q t1 t2) (j := 1) (u := 0) none NT rfl (Finset.subset_univ _) (by decide) (Nat.zero_le _)
      (by rw [ReadAs.apply_same, landIb]; exact .rfl)) $$ [TIb CIb HB]
  · isplitl [TIb]; · iexact TIb
    isplitl [CIb]; · iexact CIb
    iexact HB
  iintro HB
  iapply (Transfers.wp_dmaBatch (EC (F := F)) 𝒱₀ (thr d L) none (src := fIc L t1 t2) (dst := sIc) (q := q) (fs := x.ic) (fd := gIc) (Sd := Finset.univ)
      (D := deliv d L x q t1 t2) (j := 2) (u := 0) none NT rfl (Finset.subset_univ _) (by decide) (Nat.zero_le _)
      (by rw [ReadAs.apply_same, landIc]; exact .rfl)) $$ [TIc CIc HB]
  · isplitl [TIc]; · iexact TIc
    isplitl [CIc]; · iexact CIc
    iexact HB
  iintro HB
  iapply (Transfers.wp_dmaBatch (EC (F := F)) 𝒱₀ (thr d L) none (src := fId L t1 t2) (dst := sId) (q := q) (fs := x.id) (fd := gId) (Sd := Finset.univ)
      (D := deliv d L x q t1 t2) (j := 3) (u := 0) none NT rfl (Finset.subset_univ _) (by decide) (Nat.zero_le _)
      (by rw [ReadAs.apply_same, landId]; exact .rfl)) $$ [TId CId HB]
  · isplitl [TId]; · iexact TId
    isplitl [CId]; · iexact CId
    iexact HB
  iintro HB
  iapply (Transfers.wp_dmaBatch (EC (F := F)) 𝒱₀ (thr d L) none (src := fWa L t1 t2) (dst := sWa) (q := q) (fs := x.wa) (fd := gWa) (Sd := Finset.univ)
      (D := deliv d L x q t1 t2) (j := 4) (u := 0) none NT rfl (Finset.subset_univ _) (by decide) (Nat.zero_le _)
      (by rw [ReadAs.apply_same, landWa]; exact .rfl)) $$ [TWa CWa HB]
  · isplitl [TWa]; · iexact TWa
    isplitl [CWa]; · iexact CWa
    iexact HB
  iintro HB
  iapply (Transfers.wp_dmaBatch (EC (F := F)) 𝒱₀ (thr d L) none (src := fWb L t1 t2) (dst := sWb) (q := q) (fs := x.wb) (fd := gWb) (Sd := Finset.univ)
      (D := deliv d L x q t1 t2) (j := 5) (u := 0) none NT rfl (Finset.subset_univ _) (by decide) (Nat.zero_le _)
      (by rw [ReadAs.apply_same, landWb]; exact .rfl)) $$ [TWb CWb HB]
  · isplitl [TWb]; · iexact TWb
    isplitl [CWb]; · iexact CWb
    iexact HB
  iintro HB
  iapply (Transfers.wp_dmaBatch (EC (F := F)) 𝒱₀ (thr d L) none (src := fWc L t1 t2) (dst := sWc) (q := q) (fs := x.wc) (fd := gWc) (Sd := Finset.univ)
      (D := deliv d L x q t1 t2) (j := 6) (u := 0) none NT rfl (Finset.subset_univ _) (by decide) (Nat.zero_le _)
      (by rw [ReadAs.apply_same, landWc]; exact .rfl)) $$ [TWc CWc HB]
  · isplitl [TWc]; · iexact TWc
    isplitl [CWc]; · iexact CWc
    iexact HB
  iintro HB
  iapply (Transfers.wp_dmaBatch (EC (F := F)) 𝒱₀ (thr d L) none (src := fWd L t1 t2) (dst := sWd) (q := q) (fs := x.wd) (fd := gWd) (Sd := Finset.univ)
      (D := deliv d L x q t1 t2) (j := 7) (u := 0) none NT rfl (Finset.subset_univ _) (by decide) (Nat.zero_le _)
      (by rw [ReadAs.apply_same, landWd]; exact .rfl)) $$ [TWd CWd HB]
  · isplitl [TWd]; · iexact TWd
    isplitl [CWd]; · iexact CWd
    iexact HB
  iintro HB
  iapply (waits8 d L (deliv d L x q t1 t2) t1 t2 NT NT_pos rfl rfl rfl rfl rfl rfl rfl rfl O W hO) $$ [HB Ho]
  · isplitr; · iexact Hlv
    isplitl [HB]; · iexact HB
    iexact Ho
  iintro ⟨HD, Hsem, %W2, %hW2, Ho⟩
  ihave HD := (Entails.of_eq (bigSep_eight (deliv d L x q t1 t2))) $$ HD
  unfold deliv
  icases HD with ⟨⟨CIa, TIa⟩, ⟨CIb, TIb⟩, ⟨CIc, TIc⟩, ⟨CId, TId⟩, ⟨CWa, TWa⟩, ⟨CWb, TWb⟩, ⟨CWc, TWc⟩, ⟨CWd, TWd⟩⟩
  ihave TIa := (pointsTo_split_subset (ℓ := mIa.view.loc (thr d L)) (q := q) (f := x.ia) (Finset.subset_univ (fIa L t1 t2).view.set)).2 $$ [TIa RIa]
  · isplitl [TIa]; · iexact TIa
    iexact RIa
  ihave TIb := (pointsTo_split_subset (ℓ := mIb.view.loc (thr d L)) (q := q) (f := x.ib) (Finset.subset_univ (fIb L t1 t2).view.set)).2 $$ [TIb RIb]
  · isplitl [TIb]; · iexact TIb
    iexact RIb
  ihave TIc := (pointsTo_split_subset (ℓ := mIc.view.loc (thr d L)) (q := q) (f := x.ic) (Finset.subset_univ (fIc L t1 t2).view.set)).2 $$ [TIc RIc]
  · isplitl [TIc]; · iexact TIc
    iexact RIc
  ihave TId := (pointsTo_split_subset (ℓ := mId.view.loc (thr d L)) (q := q) (f := x.id) (Finset.subset_univ (fId L t1 t2).view.set)).2 $$ [TId RId]
  · isplitl [TId]; · iexact TId
    iexact RId
  ihave TWa := (pointsTo_split_subset (ℓ := mWa.view.loc (thr d L)) (q := q) (f := x.wa) (Finset.subset_univ (fWa L t1 t2).view.set)).2 $$ [TWa RWa]
  · isplitl [TWa]; · iexact TWa
    iexact RWa
  ihave TWb := (pointsTo_split_subset (ℓ := mWb.view.loc (thr d L)) (q := q) (f := x.wb) (Finset.subset_univ (fWb L t1 t2).view.set)).2 $$ [TWb RWb]
  · isplitl [TWb]; · iexact TWb
    iexact RWb
  ihave TWc := (pointsTo_split_subset (ℓ := mWc.view.loc (thr d L)) (q := q) (f := x.wc) (Finset.subset_univ (fWc L t1 t2).view.set)).2 $$ [TWc RWc]
  · isplitl [TWc]; · iexact TWc
    iexact RWc
  ihave TWd := (pointsTo_split_subset (ℓ := mWd.view.loc (thr d L)) (q := q) (f := x.wd) (Finset.subset_univ (fWd L t1 t2).view.set)).2 $$ [TWd RWd]
  · isplitl [TWd]; · iexact TWd
    iexact RWd
  iapply (Scf.wp_for_bind frame (wpE (defs₀ (F := F)) 𝒱₀ (thr d L) none) Set.univ _ _ _ k1_t3_ok _ _ (innerInv d L x (planeOf L t1.val) t2.val)
      (fun k u => inner_trip d L x hx (planeOf L t1.val) t2.val t1 v21 z o t2 k u)) $$ [HP CIa CIb CIc CId CWa CWb CWc CWd HO]
  · unfold innerInv
    isplitl [HP]; · iexact HP
    isplitl [CIa]; · iexact CIa
    isplitl [CIb]; · iexact CIb
    isplitl [CIc]; · iexact CIc
    isplitl [CId]; · iexact CId
    isplitl [CWa]; · iexact CWa
    isplitl [CWb]; · iexact CWb
    isplitl [CWc]; · iexact CWc
    isplitl [CWd]; · iexact CWd
    icases HO with ⟨%f, HO⟩
    iexists f; isplitr
    · ipureintro; intro j hj; exact absurd hj (Nat.not_lt_zero _)
    iexact HO
  iintro %_ HI
  rw [wp_ret]; imodintro
  iapply Hk
  isplitl [HI]; · iexact HI
  isplitl [TIa TIb TIc TId TWa TWb TWc TWd]
  · isplitl [TIa]; · iexact TIa
    isplitl [TIb]; · iexact TIb
    isplitl [TIc]; · iexact TIc
    isplitl [TId]; · iexact TId
    isplitl [TWa]; · iexact TWa
    isplitl [TWb]; · iexact TWb
    isplitl [TWc]; · iexact TWc
    iexact TWd
  isplitl [Hsem]; · iexact Hsem
  iexists W2; isplitr
  · ipureintro; exact hW2
  · iexact Ho

end Trip

end Cert.Proof.KernelIdeal
-- ==== Proof.KernelIdeal.Plane.lean ====
/-
  The middle and outer loops of a tile's body: sixteen chunks of a plane computed and copied out, and twenty-four planes
  fetched and computed. What is carried is the tile's slice of the result, right up to the chunk reached.
-/
module

public import proofs.«01_k».proof.Proof.KernelIdeal.Chunk

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid1.Coords)

/-- The places of the result a tile computes: its twenty-four planes. -/
def tileSet : Finset S38535168.Idx := Finset.univ.filter fun p => 50176 * planeOf L 0 ≤ (p 0).val ∧ (p 0).val < 50176 * planeOf L 24

theorem mem_tileSet {p : S38535168.Idx} : p ∈ tileSet L ↔ 50176 * planeOf L 0 ≤ (p 0).val ∧ (p 0).val < 50176 * planeOf L 24 := by
  unfold tileSet; rw [Finset.mem_filter]; exact ⟨fun h => h.2, fun h => ⟨Finset.mem_univ _, h⟩⟩

/-- The rectangle of the result a trip writes. -/
abbrev oRect (t1 : Fin k1_t1_loop.trips) (t2 : Fin k1_t2_loop.trips) : Rect S38535168 :=
  Rect.unit (s := S38535168) (k1_off8 L t1 t2) S3136.size (k1_off8_inb L t1 t2)
abbrev fO (t1 : Fin k1_t1_loop.trips) (t2 : Fin k1_t2_loop.trips) : Memref sig .scVector .hbm S3136 .f32 := mOut.slice (oRect L t1 t2) (fun _ => rfl)

/-- The rectangle of the image a trip fetches. -/
abbrev pRect (t1 : Fin k1_t1_loop.trips) : Rect S38535168 :=
  Rect.unit (s := S38535168) (k1_off1 L t1) S50176.size (k1_off1_inb L t1)
abbrev fP (t1 : Fin k1_t1_loop.trips) : Memref sig .scVector .hbm S50176 .f32 := mImg.slice (pRect L t1) (fun _ => rfl)

theorem oRect_emb (t1 : Fin k1_t1_loop.trips) (t2 : Fin k1_t2_loop.trips) (j : S3136.Idx) :
    (((oRect L t1 t2).emb j) 0).val = 50176 * planeOf L t1.val + 3136 * t2.val + (j 0).val := by
  rw [Rect.emb_apply]
  show k1_off8 L t1 t2 0 + 1 * (j 0).val = _
  rw [off8_eq, Nat.one_mul]; rfl

theorem pRect_emb (t1 : Fin k1_t1_loop.trips) (j : S50176.Idx) :
    (((pRect L t1).emb j) 0).val = 50176 * planeOf L t1.val + (j 0).val := by
  rw [Rect.emb_apply]
  show k1_off1 L t1 0 + 1 * (j 0).val = _
  rw [off1_eq, Nat.one_mul]; rfl

theorem planeOf_succ (t : ℕ) : planeOf L (t + 1) = planeOf L t + 1 := rfl
theorem planeOf_add (t : ℕ) : planeOf L t = planeOf L 0 + t := rfl

theorem fO_subset (t1 : Fin k1_t1_loop.trips) (t2 : Fin k1_t2_loop.trips) : (fO L t1 t2).view.set ⊆ tileSet L := by
  have h1 : t1.val < 24 := Nat.lt_of_lt_of_le t1.isLt k1_t1_abs.2.1
  have h2 : t2.val < 16 := Nat.lt_of_lt_of_le t2.isLt k1_t2_abs.2.1
  intro p hp
  obtain ⟨j, -, rfl⟩ := Finset.mem_map.mp hp
  have hj : (j 0).val < 3136 := (j 0).isLt
  have e : (((fO L t1 t2).view.emb j) 0).val = 50176 * planeOf L t1.val + 3136 * t2.val + (j 0).val := oRect_emb L t1 t2 j
  rw [mem_tileSet, e, planeOf_add L 24, planeOf_add L t1.val]
  omega

/-- The result is right on the tile's places below `n`. -/
def DoneTo [FloatOps F] (x : Inp F) (g : Vec F S38535168 .f32) (n : ℕ) : Prop :=
  ∀ p : S38535168.Idx, 50176 * planeOf L 0 ≤ (p 0).val → (p 0).val < n → g p = outV x p

variable [FloatOps F] (x : Inp F) (q : PosShare TreeShare)

/-- Copying the chunk computed out carries the result right by one chunk. -/
theorem write_chunk (t1 : Fin k1_t1_loop.trips) (t2 : Fin k1_t2_loop.trips) (g : Vec F S38535168 .f32) (w : Vec F S3136 .f32)
    (hw : ∀ j, w j = chunk x (planeOf L t1.val) t2.val j)
    (hg : DoneTo L x g (50176 * planeOf L t1.val + 3136 * t2.val)) :
    DoneTo L x ((fO L t1 t2).view.write (Elt F) g w Finset.univ) (50176 * planeOf L t1.val + 3136 * (t2.val + 1)) := by
  have h2 : t2.val < 16 := Nat.lt_of_lt_of_le t2.isLt k1_t2_abs.2.1
  intro p hp0 hp
  by_cases hlt : (p 0).val < 50176 * planeOf L t1.val + 3136 * t2.val
  · rw [View.write_of_not_mem]
    · exact hg p hp0 hlt
    intro hm
    obtain ⟨j, -, hj⟩ := Finset.mem_map.mp hm
    have e : (((fO L t1 t2).view.emb j) 0).val = 50176 * planeOf L t1.val + 3136 * t2.val + (j 0).val := oRect_emb L t1 t2 j
    rw [hj] at e
    omega
  · obtain ⟨j, hj⟩ : ∃ j : S3136.Idx, (j 0).val = (p 0).val - (50176 * planeOf L t1.val + 3136 * t2.val) :=
      ⟨fun a => ⟨(p 0).val - (50176 * planeOf L t1.val + 3136 * t2.val), by
        fin_cases a; show (p 0).val - (50176 * planeOf L t1.val + 3136 * t2.val) < 3136; omega⟩, rfl⟩
    have hj' : (j 0).val < 3136 := (j 0).isLt
    have e : (fO L t1 t2).view.emb j = p := ext1 ((oRect_emb L t1 t2 j).trans (by omega))
    have hv := View.write_emb_of_mem (v := (fO L t1 t2).view) g w (Finset.mem_univ j)
    rw [e] at hv
    refine (hv.trans (hw j)).trans ?_
    unfold chunk outV
    rw [show (p 0).val / 50176 = planeOf L t1.val by omega, show (p 0).val % 50176 = 3136 * t2.val + (j 0).val by omega]

/-- The fetch of a plane lands the plane. -/
theorem land_plane (f : Vec F S38535168 .f32) (g : Vec F S50176 .f32) (t1 : Fin k1_t1_loop.trips) :
    (sP.view.write (Elt F) g ((fP L t1).view.read (Elt F) f) Finset.univ) = fun j : S50176.Idx => f (im (50176 * planeOf L t1.val + (j 0).val)) := by
  have h1 : t1.val < 24 := Nat.lt_of_lt_of_le t1.isLt k1_t1_abs.2.1
  have hp := planeOf_lt L h1
  refine (View.write_whole_univ _ _ _).trans (funext fun j => congrArg f (ext1 ?_))
  have hj : (j 0).val < 50176 := (j 0).isLt
  rw [im_val (by omega)]
  exact pRect_emb L t1 j

/-- The tile's slice of the result, right below `n`. -/
def outTo (n : ℕ) : sProp 𝕄 :=
  iprop(∃ g : Vec F S38535168 .f32, ⌜DoneTo L x g n⌝ ∗ (mOut.view.loc (thr d L) ↦[tileSet L]{fullShare} g))

/-- The tile's waits, recorded beyond `W` at no call's index. -/
def waits (O : CellTallies nD τ sig (HIx 1)) (W : Waits sig (HIx 1)) : sProp 𝕄 :=
  iprop(∃ W', ⌜∀ p ∈ W', p ∈ W ∨ p.2 = none⌝ ∗ owes (thr d L) O W')

/-! ## The middle loop -/

/-- What the middle loop holds at chunk `c` of plane trip `t`. -/
def midInv (O : CellTallies nD τ sig (HIx 1)) (W : Waits sig (HIx 1)) (t c : ℕ) (_ : PUnit.{1}) : sProp 𝕄 :=
  iprop(levAts (K (F := F)).L (K (F := F)).lev ∗ (sP.view.loc (thr d L) ↦{fullShare} plane x (planeOf L t)) ∗ tables d L x q ∗ chunks d L
    ∗ (∃ f, sO.view.loc (thr d L) ↦{fullShare} f) ∗ semVal (thr d L, SemLoc.dma cc1_scratch10.sem) 0 ∗ semVal (thr d L, SemLoc.dma cc1_scoped1.sem) 0
    ∗ outTo d L x (50176 * planeOf L t + 3136 * c) ∗ waits d L O W)

/-- The result chunk whole, as the copy out names its source. -/
theorem pts_sO (f : Buf (Elt F) (sO.view.loc (thr d L))) :
    (sO.view.loc (thr d L) ↦[sO.view.set]{fullShare} f : sProp 𝕄) = (sO.view.loc (thr d L) ↦{fullShare} f) := by
  simp only [Memref.view_whole, View.set_whole]

set_option maxHeartbeats 4000000 in
theorem mid_trip (hx : x.InRange) (O : CellTallies nD τ sig (HIx 1)) (W : Waits sig (HIx 1)) (hO : ∀ g, O g none = 0)
    (t1 : Fin k1_t1_loop.trips) (v21 : BitVec 32) (t2 : Fin k1_t2_loop.trips) (u : PUnit.{1}) :
    midInv d L x q O W t1.val t2.val u
      ⊢ wp frame (wpE (defs₀ (F := F)) 𝒱₀ (thr d L) none) Set.univ
          (k1_t2_body L mImg (Memref.isWhole_whole _) mIa (Memref.isWhole_whole _) mIb (Memref.isWhole_whole _) mIc (Memref.isWhole_whole _) mId (Memref.isWhole_whole _)
            mWa (Memref.isWhole_whole _) mWb (Memref.isWhole_whole _) mWc (Memref.isWhole_whole _) mWd (Memref.isWhole_whole _) mOut (Memref.isWhole_whole _)
            sP (Memref.isWhole_whole _) sIa (Memref.isWhole_whole _) sIb (Memref.isWhole_whole _) sIc (Memref.isWhole_whole _) sId (Memref.isWhole_whole _)
            sWa (Memref.isWhole_whole _) sWb (Memref.isWhole_whole _) sWc (Memref.isWhole_whole _) sWd (Memref.isWhole_whole _) sO (Memref.isWhole_whole _)
            cc1_scratch10 cc1_scoped0 cc1_scoped1 t1 v21 t2 ⟨⟩)
          (midInv d L x q O W t1.val (t2.val + 1)) := by
  unfold midInv k1_t2_body
  simp only [Prog.lift, Prog.bind_op, Prog.bind_ret, Prog.pure_eq_ret]
  rw [wp_bind]
  unfold waits outTo
  iintro ⟨#Hlv, HP, HT, HC, HO, Hsem, Hsem1, ⟨%g, %hg, Hout⟩, %W1, %hW1, Ho⟩
  iapply (fetch.{1} d L x q hx O W1 hO t1 v21 0#32 1#32 t2) $$ [HP HT HC HO Hsem Ho]
  · isplitr; · iexact Hlv
    isplitl [HP]; · iexact HP
    isplitl [HT]; · iexact HT
    isplitl [HC]; · iexact HC
    isplitl [HO]; · iexact HO
    isplitl [Hsem]; · iexact Hsem
    iexact Ho
  iintro %v ⟨HI, HT, Hsem, %W2, %hW2, Ho⟩
  unfold innerInv
  icases HI with ⟨HP, CIa, CIb, CIc, CId, CWa, CWb, CWc, CWd, %f, %hf, HO⟩
  ihave HO := (Entails.of_eq (pts_sO (F := F) d L f).symm) $$ HO
  iapply (Transfers.wp_dmaLocal (EC (F := F)) 𝒱₀ (thr d L) none (src := sO) (dst := fO L t1 t2) (q := fullShare) (fs := f) (fd := g) (Sd := tileSet L)
      none _ rfl (View.amount_pos _ _ (show 0 < S3136.numel by decide)) (fO_subset L t1 t2)) $$ [HO Hout Hsem1]
  · isplitl [HO]; · iexact HO
    isplitl [Hout]; · iexact Hout
    iexact Hsem1
  iintro HF
  iapply (Transfers.wp_waitLocalO (EC (F := F)) 𝒱₀ (thr d L) none none rfl (O := O)) $$ [HF Ho]
  · isplitl [HF]; · iexact HF
    isplitl [Ho]; · iexact Ho
    iapply ((K (F := F)).mayWait_none (SemLoc.dma cc1_scoped1.sem) hO); iexact Hlv
  iintro ⟨⟨Hout, HO⟩, Hsem1, Ho⟩
  ihave HO := (Entails.of_eq (pts_sO (F := F) d L f)) $$ HO
  rw [wp_ret]; imodintro
  isplitr; · iexact Hlv
  isplitl [HP]; · iexact HP
  isplitl [HT]; · iexact HT
  isplitl [CIa CIb CIc CId CWa CWb CWc CWd]
  · unfold chunks
    isplitl [CIa]; · iexists _; iexact CIa
    isplitl [CIb]; · iexists _; iexact CIb
    isplitl [CIc]; · iexists _; iexact CIc
    isplitl [CId]; · iexists _; iexact CId
    isplitl [CWa]; · iexists _; iexact CWa
    isplitl [CWb]; · iexists _; iexact CWb
    isplitl [CWc]; · iexists _; iexact CWc
    iexists _; iexact CWd
  isplitl [HO]; · iexists _; iexact HO
  isplitl [Hsem]; · iexact Hsem
  isplitl [Hsem1]; · iexact Hsem1
  isplitl [Hout]
  · iexists _; isplitr
    rotate_left
    · iexact Hout
    ipureintro
    exact write_chunk L x t1 t2 g f (fun j => hf j (lt_of_lt_of_le (show (j 0).val < 3136 from (j 0).isLt) (by decide))) hg
  iexists _; isplitr
  rotate_left
  · iexact Ho
  ipureintro
  exact waits_insert (fun p hp => (hW2 p hp).elim (hW1 p) .inr) _

/-! ## The outer loop -/

/-- What the outer loop holds at plane trip `t`. -/
def outInv (O : CellTallies nD τ sig (HIx 1)) (W : Waits sig (HIx 1)) (t : ℕ) (_ : PUnit.{1}) : sProp 𝕄 :=
  iprop(levAts (K (F := F)).L (K (F := F)).lev ∗ (mImg.view.loc (thr d L) ↦{q} x.img) ∗ (∃ f, sP.view.loc (thr d L) ↦{fullShare} f) ∗ tables d L x q ∗ chunks d L
    ∗ (∃ f, sO.view.loc (thr d L) ↦{fullShare} f) ∗ semVal (thr d L, SemLoc.dma cc1_scratch10.sem) 0 ∗ semVal (thr d L, SemLoc.dma cc1_scoped0.sem) 0
    ∗ semVal (thr d L, SemLoc.dma cc1_scoped1.sem) 0
    ∗ outTo d L x (50176 * planeOf L t) ∗ waits d L O W)

set_option maxHeartbeats 4000000 in
theorem out_trip (hx : x.InRange) (O : CellTallies nD τ sig (HIx 1)) (W : Waits sig (HIx 1)) (hO : ∀ g, O g none = 0)
    (v1 : BitVec 32) (t1 : Fin k1_t1_loop.trips) (u : PUnit.{1}) :
    outInv d L x q O W t1.val u
      ⊢ wp frame (wpE (defs₀ (F := F)) 𝒱₀ (thr d L) none) Set.univ
          (k1_t1_body L mImg (Memref.isWhole_whole _) mIa (Memref.isWhole_whole _) mIb (Memref.isWhole_whole _) mIc (Memref.isWhole_whole _) mId (Memref.isWhole_whole _)
            mWa (Memref.isWhole_whole _) mWb (Memref.isWhole_whole _) mWc (Memref.isWhole_whole _) mWd (Memref.isWhole_whole _) mOut (Memref.isWhole_whole _)
            sP (Memref.isWhole_whole _) sIa (Memref.isWhole_whole _) sIb (Memref.isWhole_whole _) sIc (Memref.isWhole_whole _) sId (Memref.isWhole_whole _)
            sWa (Memref.isWhole_whole _) sWb (Memref.isWhole_whole _) sWc (Memref.isWhole_whole _) sWd (Memref.isWhole_whole _) sO (Memref.isWhole_whole _)
            cc1_scratch10 cc1_scoped0 cc1_scoped1 v1 t1 ⟨⟩)
          (outInv d L x q O W (t1.val + 1)) := by
  unfold outInv k1_t1_body
  simp only [Prog.lift, Prog.bind_op, Prog.bind_ret, Prog.pure_eq_ret]
  unfold waits
  iintro ⟨#Hlv, Himg, ⟨%g, HP⟩, HT, HC, HO, Hsem, Hsem0, Hsem1, Hout, %W1, %hW1, Ho⟩
  ihave Himg' := (pointsTo_split_subset (ℓ := mImg.view.loc (thr d L)) (q := q) (f := x.img) (Finset.subset_univ (fP L t1).view.set)).1 $$ Himg
  icases Himg' with ⟨Himg, Hrest⟩
  iapply (Transfers.wp_dmaLocal (EC (F := F)) 𝒱₀ (thr d L) none (src := fP L t1) (dst := sP) (q := q) (fs := x.img) (fd := g) (Sd := Finset.univ)
      none _ rfl (View.amount_pos _ _ (show 0 < S50176.numel by decide)) (Finset.subset_univ _)) $$ [Himg HP Hsem0]
  · isplitl [Himg]; · iexact Himg
    isplitl [HP]; · iexact HP
    iexact Hsem0
  iintro HF
  iapply (Transfers.wp_waitLocalO (EC (F := F)) 𝒱₀ (thr d L) none none rfl (O := O)) $$ [HF Ho]
  · isplitl [HF]; · iexact HF
    isplitl [Ho]; · iexact Ho
    iapply ((K (F := F)).mayWait_none (SemLoc.dma cc1_scoped0.sem) hO); iexact Hlv
  rw [ReadAs.apply_same, land_plane]
  iintro ⟨⟨HP, Himg⟩, Hsem0, Ho⟩
  ihave Himg := (pointsTo_split_subset (ℓ := mImg.view.loc (thr d L)) (q := q) (f := x.img) (Finset.subset_univ (fP L t1).view.set)).2 $$ [Himg Hrest]
  · isplitl [Himg]; · iexact Himg
    iexact Hrest
  iapply (Scf.wp_for_bind frame (wpE (defs₀ (F := F)) 𝒱₀ (thr d L) none) Set.univ _ _ _ k1_t2_ok _ _ (midInv d L x q O W t1.val)
      (fun k u => mid_trip d L x q hx O W hO t1 _ k u)) $$ [HP HT HC HO Hsem Hsem1 Hout Ho]
  · unfold midInv waits
    isplitr; · iexact Hlv
    isplitl [HP]; · iexact HP
    isplitl [HT]; · iexact HT
    isplitl [HC]; · iexact HC
    isplitl [HO]; · iexact HO
    isplitl [Hsem]; · iexact Hsem
    isplitl [Hsem1]; · iexact Hsem1
    isplitl [Hout]; · rw [Nat.mul_zero, Nat.add_zero]; iexact Hout
    iexists _; isplitr
    rotate_left
    · iexact Ho
    ipureintro
    exact waits_insert hW1 _
  iintro %_ HI
  unfold midInv
  icases HI with ⟨-, HP, HT, HC, HO, Hsem, Hsem1, Hout, HW⟩
  rw [wp_ret]; imodintro
  isplitr; · iexact Hlv
  isplitl [Himg]; · iexact Himg
  isplitl [HP]; · iexists _; iexact HP
  isplitl [HT]; · iexact HT
  isplitl [HC]; · iexact HC
  isplitl [HO]; · iexact HO
  isplitl [Hsem]; · iexact Hsem
  isplitl [Hsem0]; · iexact Hsem0
  isplitl [Hsem1]; · iexact Hsem1
  isplitl [Hout]
  · rw [planeOf_succ, Nat.mul_add, Nat.mul_one]
    iexact Hout
  unfold waits
  iexact HW
set_option maxHeartbeats 4000000 in
/-- The body's loops: from the tile's slice of the result at any contents to the slice right. -/
theorem body_run (hx : x.InRange) (O : CellTallies nD τ sig (HIx 1)) (W : Waits sig (HIx 1)) (hO : ∀ g, O g none = 0) :
    outInv d L x q O W 0 ⟨⟩
      ⊢ wp frame (wpE (defs₀ (F := F)) 𝒱₀ (thr d L) none) Set.univ
          (cc1__sc_body L mImg (Memref.isWhole_whole _) mIa (Memref.isWhole_whole _) mIb (Memref.isWhole_whole _) mIc (Memref.isWhole_whole _) mId (Memref.isWhole_whole _)
            mWa (Memref.isWhole_whole _) mWb (Memref.isWhole_whole _) mWc (Memref.isWhole_whole _) mWd (Memref.isWhole_whole _) mOut (Memref.isWhole_whole _)
            sP (Memref.isWhole_whole _) sIa (Memref.isWhole_whole _) sIb (Memref.isWhole_whole _) sIc (Memref.isWhole_whole _) sId (Memref.isWhole_whole _)
            sWa (Memref.isWhole_whole _) sWb (Memref.isWhole_whole _) sWc (Memref.isWhole_whole _) sWd (Memref.isWhole_whole _) sO (Memref.isWhole_whole _)
            cc1_scratch10 cc1_scoped0 cc1_scoped1)
          (fun _ => outInv d L x q O W 24 ⟨⟩) := by
  rw [cc1__sc_body_eq_skeleton]
  unfold cc1__sc_body_skel
  simp only [Prog.pure_eq_ret]
  iintro H
  iapply (Scf.wp_for_bind frame (wpE (defs₀ (F := F)) 𝒱₀ (thr d L) none) Set.univ _ _ _ k1_t1_ok _ _ (outInv d L x q O W)
      (fun k u => out_trip d L x q hx O W hO _ k u)) $$ [H]
  · iexact H
  iintro %_ HI
  rw [wp_ret]; imodintro
  iexact HI

end Tile

end Cert.Proof.KernelIdeal
-- ==== Proof.KernelIdeal.Tile.lean ====
/-
  A tile's task: its ten scratch buffers and three counters taken out of what a vector subcore owns, the loops run, and
  all of it handed back, the tile's slice of the result right.
-/
module

public import proofs.«01_k».proof.Proof.KernelIdeal.Plane

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid1.Coords)

/-- The counters a tile owns beyond the task's. -/
def restCells : Finset (GSem nD τ sig) := ((((ownCells (thr d L)).erase (thr d L, SemLoc.dma cc1_scratch10.sem)).erase (thr d L, SemLoc.dma cc1_scoped0.sem)).erase (thr d L, SemLoc.dma cc1_scoped1.sem))

/-- The buffers a tile owns beyond the task's. -/
def restRefs : Finset (DevRef τ sig) :=
  (((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8)).erase ((Proc.scVector (cV L) (jV L)).devRef cc1_scratch9))

theorem ownSems0_V :
    (ownSems0 (thr d L) : sProp 𝕄)
      = iprop(semVal (thr d L, SemLoc.dma cc1_scratch10.sem) 0 ∗ semVal (thr d L, SemLoc.dma cc1_scoped0.sem) 0 ∗ semVal (thr d L, SemLoc.dma cc1_scoped1.sem) 0 ∗ bigSep (restCells d L) fun g => semVal g 0) := by
  unfold SparseCore.Cfg.ownSems0 restCells
  rw [SparseCore.bigSep_erase' ((mem_ownCells (g := ((thr d L, SemLoc.dma cc1_scratch10.sem) : GSem nD τ sig))).mpr ⟨rfl, by show (SemLoc.dma cc1_scratch10.sem : SemLoc sig).isScoped .scVector = true; decide⟩),
    SparseCore.bigSep_erase' (Finset.mem_erase.mpr ⟨fun e => absurd (Prod.mk.inj e).2 (show (SemLoc.dma cc1_scoped0.sem : SemLoc sig) ≠ SemLoc.dma cc1_scratch10.sem by decide), (mem_ownCells (g := ((thr d L, SemLoc.dma cc1_scoped0.sem) : GSem nD τ sig))).mpr ⟨rfl, by show (SemLoc.dma cc1_scoped0.sem : SemLoc sig).isScoped .scVector = true; decide⟩⟩),
    SparseCore.bigSep_erase' (Finset.mem_erase.mpr ⟨fun e => absurd (Prod.mk.inj e).2 (show (SemLoc.dma cc1_scoped1.sem : SemLoc sig) ≠ SemLoc.dma cc1_scoped0.sem by decide), Finset.mem_erase.mpr ⟨fun e => absurd (Prod.mk.inj e).2 (show (SemLoc.dma cc1_scoped1.sem : SemLoc sig) ≠ SemLoc.dma cc1_scratch10.sem by decide), (mem_ownCells (g := ((thr d L, SemLoc.dma cc1_scoped1.sem) : GSem nD τ sig))).mpr ⟨rfl, by show (SemLoc.dma cc1_scoped1.sem : SemLoc sig).isScoped .scVector = true; decide⟩⟩⟩)]

theorem ownBufs_V :
    (ownBufs (thr d L) : sProp 𝕄)
      = iprop((∃ f, sP.view.loc (thr d L) ↦{fullShare} f)
          ∗ (∃ f, sIa.view.loc (thr d L) ↦{fullShare} f)
          ∗ (∃ f, sIb.view.loc (thr d L) ↦{fullShare} f)
          ∗ (∃ f, sIc.view.loc (thr d L) ↦{fullShare} f)
          ∗ (∃ f, sId.view.loc (thr d L) ↦{fullShare} f)
          ∗ (∃ f, sWa.view.loc (thr d L) ↦{fullShare} f)
          ∗ (∃ f, sWb.view.loc (thr d L) ↦{fullShare} f)
          ∗ (∃ f, sWc.view.loc (thr d L) ↦{fullShare} f)
          ∗ (∃ f, sWd.view.loc (thr d L) ↦{fullShare} f)
          ∗ (∃ f, sO.view.loc (thr d L) ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := (Proc.scVector (cV L) (jV L)).devRef cc1_scratch5) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := (Proc.scVector (cV L) (jV L)).devRef cc1_scratch6) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := (Proc.scVector (cV L) (jV L)).devRef cc1_scratch7) rfl⟩⟩⟩⟩⟩⟩⟩),
    SparseCore.bigSep_erase' (Finset.mem_erase.mpr ⟨fun e => absurd (Proc.devRef_injective _ e) (show (cc1_scratch8 : Ref sig .scVector) ≠ cc1_scratch7 by decide), Finset.mem_erase.mpr ⟨fun e => absurd (Proc.devRef_injective _ e) (show (cc1_scratch8 : Ref sig .scVector) ≠ cc1_scratch6 by decide), Finset.mem_erase.mpr ⟨fun e => absurd (Proc.devRef_injective _ e) (show (cc1_scratch8 : Ref sig .scVector) ≠ cc1_scratch5 by decide), Finset.mem_erase.mpr ⟨fun e => absurd (Proc.devRef_injective _ e) (show (cc1_scratch8 : Ref sig .scVector) ≠ cc1_scratch4 by decide), Finset.mem_erase.mpr ⟨fun e => absurd (Proc.devRef_injective _ e) (show (cc1_scratch8 : Ref sig .scVector) ≠ cc1_scratch3 by decide), Finset.mem_erase.mpr ⟨fun e => absurd (Proc.devRef_injective _ e) (show (cc1_scratch8 : Ref sig .scVector) ≠ cc1_scratch2 by decide), Finset.mem_erase.mpr ⟨fun e => absurd (Proc.devRef_injective _ e) (show (cc1_scratch8 : Ref sig .scVector) ≠ cc1_scratch1 by decide), Finset.mem_erase.mpr ⟨fun e => absurd (Proc.devRef_injective _ e) (show (cc1_scratch8 : Ref sig .scVector) ≠ cc1_scratch0 by decide), SparseCore.Cfg.mem_ownRefs_of_owner (p := Proc.scVector (cV L) (jV L)) (b := (Proc.scVector (cV L) (jV L)).devRef cc1_scratch8) rfl⟩⟩⟩⟩⟩⟩⟩⟩),
    SparseCore.bigSep_erase' (Finset.mem_erase.mpr ⟨fun e => absurd (Proc.devRef_injective _ e) (show (cc1_scratch9 : Ref sig .scVector) ≠ cc1_scratch8 by decide), Finset.mem_erase.mpr ⟨fun e => absurd (Proc.devRef_injective _ e) (show (cc1_scratch9 : Ref sig .scVector) ≠ cc1_scratch7 by decide), Finset.mem_erase.mpr ⟨fun e => absurd (Proc.devRef_injective _ e) (show (cc1_scratch9 : Ref sig .scVector) ≠ cc1_scratch6 by decide), Finset.mem_erase.mpr ⟨fun e => absurd (Proc.devRef_injective _ e) (show (cc1_scratch9 : Ref sig .scVector) ≠ cc1_scratch5 by decide), Finset.mem_erase.mpr ⟨fun e => absurd (Proc.devRef_injective _ e) (show (cc1_scratch9 : Ref sig .scVector) ≠ cc1_scratch4 by decide), Finset.mem_erase.mpr ⟨fun e => absurd (Proc.devRef_injective _ e) (show (cc1_scratch9 : Ref sig .scVector) ≠ cc1_scratch3 by decide), Finset.mem_erase.mpr ⟨fun e => absurd (Proc.devRef_injective _ e) (show (cc1_scratch9 : Ref sig .scVector) ≠ cc1_scratch2 by decide), Finset.mem_erase.mpr ⟨fun e => absurd (Proc.devRef_injective _ e) (show (cc1_scratch9 : Ref sig .scVector) ≠ cc1_scratch1 by decide), Finset.mem_erase.mpr ⟨fun e => absurd (Proc.devRef_injective _ e) (show (cc1_scratch9 : Ref sig .scVector) ≠ cc1_scratch0 by decide), SparseCore.Cfg.mem_ownRefs_of_owner (p := Proc.scVector (cV L) (jV L)) (b := (Proc.scVector (cV L) (jV L)).devRef cc1_scratch9) rfl⟩⟩⟩⟩⟩⟩⟩⟩⟩)]

variable [FloatOps F] (x : Inp F) (q : PosShare TreeShare)

/-- What a tile is handed: a share of the image and of the eight tables, and its slice of the result at any contents. -/
def goRes : sProp 𝕄 :=
  iprop((mImg.view.loc (thr d L) ↦{q} x.img) ∗ tables d L x q ∗ ∃ g : Vec F S38535168 .f32, mOut.view.loc (thr d L) ↦[tileSet L]{fullShare} g)
/-- What it hands back: the shares, and its slice of the result, right. -/
def tdRes : sProp 𝕄 :=
  iprop((mImg.view.loc (thr d L) ↦{q} x.img) ∗ tables d L x q ∗ mOut.view.loc (thr d L) ↦[tileSet L]{fullShare} outV x)

theorem outTo_start (g : Vec F S38535168 .f32) :
    (mOut.view.loc (thr d L) ↦[tileSet L]{fullShare} g : sProp 𝕄) ⊢ outTo d L x (50176 * planeOf L 0) := by
  unfold outTo
  iintro H
  iexists g; isplitr
  · ipureintro; intro p h0 h1; exact absurd h1 (by omega)
  · iexact H

theorem outTo_end : (outTo d L x (50176 * planeOf L 24) : sProp 𝕄) ⊢ mOut.view.loc (thr d L) ↦[tileSet L]{fullShare} outV x := by
  unfold outTo
  iintro ⟨%g, %hg, H⟩
  iapply (Entails.of_eq (pointsTo_congr (ℓ := mOut.view.loc (thr d L)) (I := tileSet L) (q := fullShare) (f := g) (g := outV x)
    fun p hp => hg p ((mem_tileSet L).mp hp).1 ((mem_tileSet L).mp hp).2))
  iexact H

set_option maxHeartbeats 4000000 in
/-- The task of the tile `L` names. -/
theorem tile_body (hF : (K (F := F)).Facts) (hx : x.InRange) (O : CellTallies nD τ sig (HIx 1)) (W : Waits sig (HIx 1)) (hO : ∀ g, O g none = 0) :
    iprop(levAts (K (F := F)).L (K (F := F)).lev ∗ emp ∗ goRes d L x q ∗ scopedBufs (thr d L) ∗ scopedSems0 (thr d L) ∗ owes (thr d L) O W)
      ⊢ wp frame (wpE (defs₀ (F := F)) 𝒱₀ (thr d L) none) Set.univ
          (cc1__sc_body L mImg (Memref.isWhole_whole _) mIa (Memref.isWhole_whole _) mIb (Memref.isWhole_whole _) mIc (Memref.isWhole_whole _) mId (Memref.isWhole_whole _) mWa (Memref.isWhole_whole _) mWb (Memref.isWhole_whole _) mWc (Memref.isWhole_whole _) mWd (Memref.isWhole_whole _) mOut (Memref.isWhole_whole _) sP (Memref.isWhole_whole _) sIa (Memref.isWhole_whole _) sIb (Memref.isWhole_whole _) sIc (Memref.isWhole_whole _) sId (Memref.isWhole_whole _) sWa (Memref.isWhole_whole _) sWb (Memref.isWhole_whole _) sWc (Memref.isWhole_whole _) sWd (Memref.isWhole_whole _) sO (Memref.isWhole_whole _) cc1_scratch10 cc1_scoped0 cc1_scoped1)
          fun _ => iprop(tdRes d L x q ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goRes
  iintro ⟨#Hlv, -, ⟨Himg, HT, %g, Hout⟩, ⟨HP, CIa, CIb, CIc, CId, CWa, CWb, CWc, CWd, HO, Hbufs⟩, ⟨Hsem, Hsem0, Hsem1, Hsems⟩, Ho⟩
  ihave Hout := (outTo_start d L x g) $$ Hout
  ihave Hwp := (body_run d L x q hx O W hO) $$ [Himg HT Hout HP CIa CIb CIc CId CWa CWb CWc CWd HO Hsem Hsem0 Hsem1 Ho]
  · unfold outInv waits chunks
    isplitr; · iexact Hlv
    isplitl [Himg]; · iexact Himg
    isplitl [HP]; · iexact HP
    isplitl [HT]; · iexact HT
    isplitl [CIa CIb CIc CId CWa CWb CWc CWd]
    · isplitl [CIa]; · iexact CIa
      isplitl [CIb]; · iexact CIb
      isplitl [CIc]; · iexact CIc
      isplitl [CId]; · iexact CId
      isplitl [CWa]; · iexact CWa
      isplitl [CWb]; · iexact CWb
      isplitl [CWc]; · iexact CWc
      iexact CWd
    isplitl [HO]; · iexact HO
    isplitl [Hsem]; · iexact Hsem
    isplitl [Hsem0]; · iexact Hsem0
    isplitl [Hsem1]; · iexact Hsem1
    isplitl [Hout]; · iexact Hout
    iexists W; isplitr
    · ipureintro; exact fun p hp => .inl hp
    · iexact Ho
  iapply (wp_wand frame) $$ [Hwp]
  · iexact Hwp
  iintro %_ HI
  unfold outInv waits chunks tdRes
  icases HI with ⟨-, Himg, HP, HT, ⟨CIa, CIb, CIc, CId, CWa, CWb, CWc, CWd⟩, HO, Hsem, Hsem0, Hsem1, Hout, HW⟩
  isplitl [Himg HT Hout]
  · isplitl [Himg]; · iexact Himg
    isplitl [HT]; · iexact HT
    iapply (outTo_end d L x); iexact Hout
  isplitl [HP CIa CIb CIc CId CWa CWb CWc CWd HO Hbufs]
  · isplitl [HP]; · iexact HP
    isplitl [CIa]; · iexact CIa
    isplitl [CIb]; · iexact CIb
    isplitl [CIc]; · iexact CIc
    isplitl [CId]; · iexact CId
    isplitl [CWa]; · iexact CWa
    isplitl [CWb]; · iexact CWb
    isplitl [CWc]; · iexact CWc
    isplitl [CWd]; · iexact CWd
    isplitl [HO]; · iexact HO
    iexact Hbufs
  isplitl [Hsem Hsem0 Hsem1 Hsems]
  · isplitl [Hsem]; · iexact Hsem
    isplitl [Hsem0]; · iexact Hsem0
    isplitl [Hsem1]; · iexact Hsem1
    iexact Hsems
  iexact HW

end Tile

end Cert.Proof.KernelIdeal
-- ==== Proof.KernelIdeal.Pay.lean ====
/-
  What the one SparseCore call carries: each tile's shares and slice out, and back with the slice right; the tile's
  obligation, and the launch element.
-/
module

public import proofs.«01_k».proof.Proof.KernelIdeal.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch's names for it -/

/-- The coordinates of a core and a subcore. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__sc_body (coordsV c s) mImg (Memref.isWhole_whole _) mIa (Memref.isWhole_whole _) mIb (Memref.isWhole_whole _) mIc (Memref.isWhole_whole _) mId (Memref.isWhole_whole _) mWa (Memref.isWhole_whole _) mWb (Memref.isWhole_whole _) mWc (Memref.isWhole_whole _) mWd (Memref.isWhole_whole _) mOut (Memref.isWhole_whole _) sP (Memref.isWhole_whole _) sIa (Memref.isWhole_whole _) sIb (Memref.isWhole_whole _) sIc (Memref.isWhole_whole _) sId (Memref.isWhole_whole _) sWa (Memref.isWhole_whole _) sWb (Memref.isWhole_whole _) sWc (Memref.isWhole_whole _) sWd (Memref.isWhole_whole _) sO (Memref.isWhole_whole _) cc1_scratch10 cc1_scoped0 cc1_scoped1) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

section Pay

variable (X : Dev nD → Inp F)

/-- The tile of a core and a subcore of the call. -/
abbrev tileAt (c : Fin ((K (F := F)).nCore 0)) (i : Fin ((K (F := F)).nSub 0)) : grid1.Coords := coordsV ⟨c.val, c.isLt⟩ ⟨i.val, i.isLt⟩
/-- The share of a whole array a tile holds. -/
abbrev tileTok (c i : ℕ) : PosShare TreeShare := Transfers.shareTokN (Transfers.shareTokN fullShare c) i

def goAt (d : Dev nD) (c : Fin ((K (F := F)).nCore 0)) (i : Fin ((K (F := F)).nSub 0)) : sProp 𝕄 := goRes d (tileAt (F := F) c i) (X d) (tileTok c.val i.val)
def tdAt (d : Dev nD) (c : Fin ((K (F := F)).nCore 0)) (i : Fin ((K (F := F)).nSub 0)) : sProp 𝕄 := tdRes d (tileAt (F := F) c i) (X d) (tileTok c.val i.val)
def stAt (d : Dev nD) (c : Fin ((K (F := F)).nCore 0)) : sProp 𝕄 := bigSep Finset.univ fun i : Fin ((K (F := F)).nSub 0) => goAt X d c i
def dnAt (d : Dev nD) (c : Fin ((K (F := F)).nCore 0)) : sProp 𝕄 := bigSep Finset.univ fun i : Fin ((K (F := F)).nSub 0) => tdAt X d c i

/-- The one call takes what its tiles take, and brings back what they bring back. -/
def P : (K (F := F)).Pay (nD := nD) (Val := Elt F) (Name := ℕ) (U := UU) where
  st := fun q d c => match q with | 0 => stAt X d c
  dn := fun q d c => match q with | 0 => dnAt X d c
  go := fun q d c i => match q with | 0 => goAt X d c i
  td := fun q d c i => match q with | 0 => tdAt X d c i
  x := fun _ _ => iprop(emp)

instance goAt_storable (d : Dev nD) (c : Fin ((K (F := F)).nCore 0)) (i : Fin ((K (F := F)).nSub 0)) : BI.Storable (upEmb : UEmb _ 𝕄) (goAt X d c i) := by
  unfold goAt goRes tables; infer_instance
instance tdAt_storable (d : Dev nD) (c : Fin ((K (F := F)).nCore 0)) (i : Fin ((K (F := F)).nSub 0)) : BI.Storable (upEmb : UEmb _ 𝕄) (tdAt X d c i) := by
  unfold tdAt tdRes tables; infer_instance
instance stAt_storable (d : Dev nD) (c : Fin ((K (F := F)).nCore 0)) : BI.Storable (upEmb : UEmb _ 𝕄) (stAt X d c) := by
  unfold stAt; infer_instance
instance dnAt_storable (d : Dev nD) (c : Fin ((K (F := F)).nCore 0)) : BI.Storable (upEmb : UEmb _ 𝕄) (dnAt X d c) := by
  unfold dnAt; infer_instance

instance P_storable : (P (F := F) X).IsStorable where
  st q d c := match q with | 0 => stAt_storable X d c
  dn q d c := match q with | 0 => dnAt_storable X d c
  go q d c i := match q with | 0 => goAt_storable X d c i
  td q d c i := match q with | 0 => tdAt_storable X d c i

theorem tileObl (hF : (K (F := F)).Facts) (hX : ∀ d, (X d).InRange) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (X d) (tileTok c.val i.val) hF (hX d) O W hO).trans (wp_mono frame _ _ fun _ => obl_post)

theorem vecSplit : (K (F := F)).VecSplit' (P X) 0 := by
  intro d c
  show stAt X d c ⊢ |={Set.univ}=> iprop((bigSep Finset.univ fun i : Fin ((K (F := F)).nSub 0) => goAt X d c i)
      ∗ ((bigSep Finset.univ fun i : Fin ((K (F := F)).nSub 0) => tdAt X d c i) -∗ dnAt X d c))
  unfold stAt dnAt
  iintro H; imodintro
  isplitl [H]; · iexact H
  iintro H; iexact H

end Pay

end Cert.Proof.KernelIdeal
-- ==== Proof.KernelIdeal.Deal.lean ====
/-
  Dealing the nine arrays and the result out to the tiles, and taking them back: each array in read shares, the result in
  the tiles' slices, which cover it and do not meet.
-/
module

public import proofs.«01_k».proof.Proof.KernelIdeal.Pay

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A tile's core, and its subcore. -/
abbrev Cr : Type := Fin ((K (F := F)).nCore 0)
abbrev Sb : Type := Fin ((K (F := F)).nSub 0)

/-- One assertion for every tile. -/
abbrev all (G : Cr (F := F) → Sb (F := F) → sProp 𝕄) : sProp 𝕄 := bigSep Finset.univ fun c => bigSep Finset.univ fun i => G c i

theorem eqv {P Q : sProp 𝕄} (h : P ⊢ Q) (h' : Q ⊢ P) : P = Q := BI.equiv_iff.mp ⟨h, h'⟩

theorem bs_sep {I : Type} (s : Finset I) (Φ Ψ : I → sProp 𝕄) : bigSep s (fun i => iprop(Φ i ∗ Ψ i)) = iprop(bigSep s Φ ∗ bigSep s Ψ) := BI.bigSep_sep s Φ Ψ

theorem all_sep (G H : Cr (F := F) → Sb (F := F) → sProp 𝕄) : all (fun c i => iprop(G c i ∗ H c i)) = iprop(all G ∗ all H) :=
  (bigSep_congr fun c _ => bs_sep _ (G c) (H c)).trans (bs_sep _ _ _)

/-- What is left of an array once every tile has its share. -/
def left (ℓ : Loc nD τ sig) (f : Buf (Elt F) ℓ) : sProp 𝕄 :=
  iprop((ℓ ↦{Transfers.shareDrop fullShare 2} f) ∗ bigSep Finset.univ fun c : Fin 2 => ℓ ↦{Transfers.shareDrop (Transfers.shareTok fullShare 2 c) 16} f)

theorem deal (ℓ : Loc nD τ sig) (f : Buf (Elt F) ℓ) :
    (ℓ ↦{fullShare} f : sProp 𝕄) = iprop(left ℓ f ∗ all fun c i => ℓ ↦{tileTok c.val i.val} f) := by
  have h2 : ∀ c : Fin 2, (ℓ ↦{Transfers.shareTok fullShare 2 c} f : sProp 𝕄)
      = iprop((ℓ ↦{Transfers.shareDrop (Transfers.shareTok fullShare 2 c) 16} f) ∗ bigSep Finset.univ fun i : Fin 16 => ℓ ↦{tileTok c.val i.val} f) :=
    fun c => eqv (Transfers.pointsTo_toks _ 16).1 (Transfers.pointsTo_toks _ 16).2
  have h1 : (ℓ ↦{fullShare} f : sProp 𝕄)
      = iprop((ℓ ↦{Transfers.shareDrop fullShare 2} f) ∗ bigSep Finset.univ fun c : Fin 2 => ℓ ↦{Transfers.shareTok fullShare 2 c} f) :=
    eqv (Transfers.pointsTo_toks _ 2).1 (Transfers.pointsTo_toks _ 2).2
  rw [h1, bigSep_congr fun c _ => h2 c, bs_sep]
  unfold left
  refine eqv ?_ ?_
  · iintro ⟨H1, H2, H3⟩
    isplitl [H1 H2]
    · isplitl [H1] <;> iassumption
    · iexact H3
  · iintro ⟨⟨H1, H2⟩, H3⟩
    isplitl [H1]; · iexact H1
    isplitl [H2]; · iexact H2
    iexact H3

/-! ## The result's slices -/

/-- The result's array. -/
abbrev oL (d : Dev nD) : Loc nD τ sig := (T d : Thread nD τ).loc main_v38

theorem tile_lo (c : Cr (F := F)) (i : Sb (F := F)) : planeOf (tileAt (F := F) c i) 0 = 48 * i.val + 24 * c.val := rfl
theorem tile_hi (c : Cr (F := F)) (i : Sb (F := F)) : planeOf (tileAt (F := F) c i) 24 = 48 * i.val + 24 * c.val + 24 := rfl

theorem mem_tileAt {c : Cr (F := F)} {i : Sb (F := F)} {p : S38535168.Idx} :
    p ∈ tileSet (tileAt (F := F) c i) ↔ 50176 * (48 * i.val + 24 * c.val) ≤ (p 0).val ∧ (p 0).val < 50176 * (48 * i.val + 24 * c.val + 24) := by
  rw [mem_tileSet, tile_lo, tile_hi]

theorem tiles_cover : (Finset.univ.biUnion fun c : Cr (F := F) => Finset.univ.biUnion fun i : Sb (F := F) => tileSet (tileAt (F := F) c i)) = Finset.univ := by
  refine Finset.eq_univ_iff_forall.mpr fun p => ?_
  have hp : (p 0).val < 38535168 := (p 0).isLt
  refine Finset.mem_biUnion.mpr ⟨⟨(p 0).val / 1204224 % 2, Nat.mod_lt _ (by decide)⟩, Finset.mem_univ _, Finset.mem_biUnion.mpr ⟨⟨(p 0).val / 2408448, ?_⟩, Finset.mem_univ _, ?_⟩⟩
  · show (p 0).val / 2408448 < 16
    omega
  · rw [mem_tileAt]
    show 50176 * (48 * ((p 0).val / 2408448) + 24 * ((p 0).val / 1204224 % 2)) ≤ (p 0).val ∧ (p 0).val < 50176 * (48 * ((p 0).val / 2408448) + 24 * ((p 0).val / 1204224 % 2) + 24)
    omega

theorem tiles_disjoint {c c' : Cr (F := F)} {i i' : Sb (F := F)} (h : c ≠ c' ∨ i ≠ i') :
    Disjoint (tileSet (tileAt (F := F) c i)) (tileSet (tileAt (F := F) c' i')) := by
  refine Finset.disjoint_left.mpr fun p hp hp' => ?_
  rw [mem_tileAt] at hp hp'
  have hc : c.val < 2 := c.isLt
  have hc' : c'.val < 2 := c'.isLt
  have hne : c.val ≠ c'.val ∨ i.val ≠ i'.val := h.imp (fun h e => h (Fin.ext e)) (fun h e => h (Fin.ext e))
  omega

theorem deal_out (d : Dev nD) (g : Buf (Elt F) (oL d)) :
    (oL d ↦{fullShare} g : sProp 𝕄) = all fun c i => oL d ↦[tileSet (tileAt (F := F) c i)]{fullShare} g := by
  have h := pointsTo_biUnion (Ix := HIx 1) (Val := Elt F) (Name := ℕ) (U := UU) (Lvl := ℕ) (ℓ := oL d) (q := fullShare) (f := g) Finset.univ (fun c : Cr (F := F) => Finset.univ.biUnion fun i : Sb (F := F) => tileSet (tileAt (F := F) c i))
    (fun c _ c' _ hc => (Finset.disjoint_biUnion_left _ _ _).mpr fun i _ => (Finset.disjoint_biUnion_right _ _ _).mpr fun i' _ => tiles_disjoint (Or.inl hc))
  rw [tiles_cover] at h
  exact h.trans (bigSep_congr fun c _ => pointsTo_biUnion _ _ fun i _ i' _ hi => tiles_disjoint (Or.inr hi))

/-! ## All of it -/

variable (X : Dev nD → Inp F)

/-- What is left of the nine arrays. -/
def lefts (d : Dev nD) : sProp 𝕄 :=
  iprop(left ((T d : Thread nD τ).loc main_v37) (X d).img ∗ left ((T d : Thread nD τ).loc main_v29) (X d).ia
    ∗ left ((T d : Thread nD τ).loc main_v30) (X d).ib ∗ left ((T d : Thread nD τ).loc main_v31) (X d).ic
    ∗ left ((T d : Thread nD τ).loc main_v32) (X d).id ∗ left ((T d : Thread nD τ).loc main_v33) (X d).wa
    ∗ left ((T d : Thread nD τ).loc main_v34) (X d).wb ∗ left ((T d : Thread nD τ).loc main_v35) (X d).wc
    ∗ left ((T d : Thread nD τ).loc main_v36) (X d).wd)

/-- The ten arrays whole, the result at `g`. -/
def ten (d : Dev nD) (g : Vec F S38535168 .f32) : sProp 𝕄 :=
  iprop(((T d : Thread nD τ).loc main_v37 ↦{fullShare} (X d).img) ∗ ((T d : Thread nD τ).loc main_v29 ↦{fullShare} (X d).ia)
    ∗ ((T d : Thread nD τ).loc main_v30 ↦{fullShare} (X d).ib) ∗ ((T d : Thread nD τ).loc main_v31 ↦{fullShare} (X d).ic)
    ∗ ((T d : Thread nD τ).loc main_v32 ↦{fullShare} (X d).id) ∗ ((T d : Thread nD τ).loc main_v33 ↦{fullShare} (X d).wa)
    ∗ ((T d : Thread nD τ).loc main_v34 ↦{fullShare} (X d).wb) ∗ ((T d : Thread nD τ).loc main_v35 ↦{fullShare} (X d).wc)
    ∗ ((T d : Thread nD τ).loc main_v36 ↦{fullShare} (X d).wd) ∗ oL d ↦{fullShare} g)

/-- A tile's part of the ten arrays, its slice of the result in `O`. -/
abbrev part10 (d : Dev nD) (O : Cr (F := F) → Sb (F := F) → sProp 𝕄) (c : Cr (F := F)) (i : Sb (F := F)) : sProp 𝕄 :=
  iprop(((T d : Thread nD τ).loc main_v37 ↦{tileTok c.val i.val} (X d).img) ∗ (((T d : Thread nD τ).loc main_v29 ↦{tileTok c.val i.val} (X d).ia)
    ∗ ((T d : Thread nD τ).loc main_v30 ↦{tileTok c.val i.val} (X d).ib) ∗ ((T d : Thread nD τ).loc main_v31 ↦{tileTok c.val i.val} (X d).ic)
    ∗ ((T d : Thread nD τ).loc main_v32 ↦{tileTok c.val i.val} (X d).id) ∗ ((T d : Thread nD τ).loc main_v33 ↦{tileTok c.val i.val} (X d).wa)
    ∗ ((T d : Thread nD τ).loc main_v34 ↦{tileTok c.val i.val} (X d).wb) ∗ ((T d : Thread nD τ).loc main_v35 ↦{tileTok c.val i.val} (X d).wc)
    ∗ ((T d : Thread nD τ).loc main_v36 ↦{tileTok c.val i.val} (X d).wd)) ∗ O c i)

theorem goAt_eq (d : Dev nD) (c : Cr (F := F)) (i : Sb (F := F)) :
    goAt X d c i = part10 X d (fun c i => iprop(∃ g : Vec F S38535168 .f32, oL d ↦[tileSet (tileAt (F := F) c i)]{fullShare} g)) c i := rfl
theorem tdAt_eq (d : Dev nD) (c : Cr (F := F)) (i : Sb (F := F)) :
    tdAt X d c i = part10 X d (fun c i => oL d ↦[tileSet (tileAt (F := F) c i)]{fullShare} outV (X d)) c i := rfl

/-- The tiles' parts together are the nine arrays' dealt shares and the result's slices. -/
theorem all_part10 (d : Dev nD) (O : Cr (F := F) → Sb (F := F) → sProp 𝕄) :
    all (part10 X d O) = iprop((all fun c i => (T d : Thread nD τ).loc main_v37 ↦{tileTok c.val i.val} (X d).img) ∗ ((all fun c i => (T d : Thread nD τ).loc main_v29 ↦{tileTok c.val i.val} (X d).ia)
    ∗ (all fun c i => (T d : Thread nD τ).loc main_v30 ↦{tileTok c.val i.val} (X d).ib) ∗ (all fun c i => (T d : Thread nD τ).loc main_v31 ↦{tileTok c.val i.val} (X d).ic)
    ∗ (all fun c i => (T d : Thread nD τ).loc main_v32 ↦{tileTok c.val i.val} (X d).id) ∗ (all fun c i => (T d : Thread nD τ).loc main_v33 ↦{tileTok c.val i.val} (X d).wa)
    ∗ (all fun c i => (T d : Thread nD τ).loc main_v34 ↦{tileTok c.val i.val} (X d).wb) ∗ (all fun c i => (T d : Thread nD τ).loc main_v35 ↦{tileTok c.val i.val} (X d).wc)
    ∗ (all fun c i => (T d : Thread nD τ).loc main_v36 ↦{tileTok c.val i.val} (X d).wd)) ∗ all O) := by
  unfold part10
  rw [all_sep, all_sep, all_sep, all_sep, all_sep, all_sep, all_sep, all_sep, all_sep]

theorem some_out (d : Dev nD) (I : Finset S38535168.Idx) (g : Vec F S38535168 .f32) :
    (oL d ↦[I]{fullShare} g : sProp 𝕄) ⊢ iprop(∃ g : Vec F S38535168 .f32, oL d ↦[I]{fullShare} g) := by
  iintro H; iexists g; iexact H

/-- The ten arrays are what is left of the nine and what the call takes. -/
theorem give (d : Dev nD) (g : Vec F S38535168 .f32) :
    ten X d g ⊢ iprop(lefts X d ∗ bigSep Finset.univ fun c : Cr (F := F) => (P X).st 0 d c) := by
  have hst : (bigSep Finset.univ fun c : Cr (F := F) => (P X).st 0 d c)
      = all (part10 X d fun c i => iprop(∃ g : Vec F S38535168 .f32, oL d ↦[tileSet (tileAt (F := F) c i)]{fullShare} g)) :=
    bigSep_congr fun c _ => (show (P X).st 0 d c = stAt X d c from rfl).trans (bigSep_congr fun i _ => goAt_eq X d c i)
  have ho : (all fun c i => (oL d ↦[tileSet (tileAt (F := F) c i)]{fullShare} g : sProp 𝕄))
      ⊢ all fun c i => iprop(∃ g : Vec F S38535168 .f32, oL d ↦[tileSet (tileAt (F := F) c i)]{fullShare} g) :=
    bigSep_mono fun c _ => bigSep_mono fun i _ => some_out d _ g
  rw [hst, all_part10]
  unfold ten lefts
  rw [deal, deal, deal, deal, deal, deal, deal, deal, deal, deal_out]
  iintro ⟨⟨L1, A1⟩, ⟨L2, A2⟩, ⟨L3, A3⟩, ⟨L4, A4⟩, ⟨L5, A5⟩, ⟨L6, A6⟩, ⟨L7, A7⟩, ⟨L8, A8⟩, ⟨L9, A9⟩, O⟩
  ihave O' := ho $$ O
  isplitl [L1 L2 L3 L4 L5 L6 L7 L8 L9]
  · isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    iexact L9
  · isplitl [A1]; · iexact A1
    isplitr [O']
    · isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    · iexact O'

/-- What the call brings back and what was left are the ten arrays, the result right. -/
theorem take (d : Dev nD) :
    iprop(lefts X d ∗ bigSep Finset.univ fun c : Cr (F := F) => (P X).dn 0 d c) ⊢ ten X d (outV (X d)) := by
  have hdn : (bigSep Finset.univ fun c : Cr (F := F) => (P X).dn 0 d c)
      = all (part10 X d fun c i => oL d ↦[tileSet (tileAt (F := F) c i)]{fullShare} outV (X d)) :=
    bigSep_congr fun c _ => (show (P X).dn 0 d c = dnAt X d c from rfl).trans (bigSep_congr fun i _ => tdAt_eq X d c i)
  rw [hdn, all_part10]
  unfold ten lefts
  rw [deal ((T d : Thread nD τ).loc main_v37), deal ((T d : Thread nD τ).loc main_v29), deal ((T d : Thread nD τ).loc main_v30), deal ((T d : Thread nD τ).loc main_v31), deal ((T d : Thread nD τ).loc main_v32), deal ((T d : Thread nD τ).loc main_v33), deal ((T d : Thread nD τ).loc main_v34), deal ((T d : Thread nD τ).loc main_v35), deal ((T d : Thread nD τ).loc main_v36), deal_out]
  iintro ⟨⟨L1, L2, L3, L4, L5, L6, L7, L8, L9⟩, A1, ⟨A2, A3, A4, A5, A6, A7, A8, A9⟩, O⟩
  isplitl [L1 A1]; · isplitl [L1] <;> iassumption
  isplitl [L2 A2]; · isplitl [L2] <;> iassumption
  isplitl [L3 A3]; · isplitl [L3] <;> iassumption
  isplitl [L4 A4]; · isplitl [L4] <;> iassumption
  isplitl [L5 A5]; · isplitl [L5] <;> iassumption
  isplitl [L6 A6]; · isplitl [L6] <;> iassumption
  isplitl [L7 A7]; · isplitl [L7] <;> iassumption
  isplitl [L8 A8]; · isplitl [L8] <;> iassumption
  isplitl [L9 A9]; · isplitl [L9] <;> iassumption
  iexact O

end Cert.Proof.KernelIdeal
-- ==== Proof.KernelIdeal.Launch.lean ====
/-
  The launch of the program: @main on the TensorCore from the launch memory to the contents at the end, through the two
  calls, and the run of all threads.
-/
module

public import proofs.«01_k».proof.Proof.KernelIdeal.Vals
public import proofs.«01_k».proof.Proof.KernelIdeal.Deal
public import Idealize.ShloMosaic.Lib.Pipeline.RegionsLoop

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after)

variable {F : FTy → Type} [FloatOps F]

local notation "𝕄" => MT nD τ sig (HIx 1) (Elt F) ℕ UU ℕ

/-! ## The ghost state at launch -/

/-- The handshakes' rounds, the staging cells' rounds, no transfers' counters. -/
def u₀ : UU := (initOf (K (F := F)).hsCells (K (F := F)).hsToks, (initOf (Pipeline.cells cfgs cellOf_inj) (Pipeline.launchToks cfgs cellOf_inj), 1))

/-- The staging cells' ghost state of device `d`. -/
abbrev extra (d : Dev nD) : sProp 𝕄 := iprop(Pipeline.cellsGhost cfgs EK 0 d ∗ Pipeline.toksInit cfgs EK 0 d)

variable (X : Dev nD → Inp F)

theorem x_emp : (bigSep Finset.univ fun thr : Thread nD τ => bigSep Finset.univ fun q : Fin 1 => (P X).x q thr : sProp 𝕄) = iprop(emp) := by
  rw [show (fun thr : Thread nD τ => bigSep Finset.univ fun q : Fin 1 => ((P X).x q thr : sProp 𝕄)) = fun _ => iprop(emp) from
    funext fun thr => bigSep_emp_const Finset.univ]
  exact bigSep_emp_const _

theorem one_p (f : Dev nD → Fin 1 → sProp 𝕄) : (bigSep Finset.univ fun c : Dev nD => bigSep Finset.univ fun p => f c p) = bigSep Finset.univ fun c => f c 0 :=
  bigSep_congr fun c _ => bigSep_univ_of_subsingleton (0 : Fin 1)

theorem extras :
    iprop((bigSep Finset.univ fun c : Dev nD => bigSep Finset.univ fun p => (Pipeline.cellsGhost cfgs EK p c : sProp 𝕄))
      ∗ (bigSep Finset.univ fun c : Dev nD => bigSep Finset.univ fun p => (Pipeline.toksInit cfgs EK p c : sProp 𝕄)))
      ⊢ bigSep Finset.univ fun d : Dev nD => extra (F := F) d := by
  rw [one_p, one_p]
  exact BIBase.Entails.of_eq (bs_sep _ _ _).symm

theorem hu₀ : (ownU (u₀ (F := F)) : sProp 𝕄)
    ⊢ |={Set.univ}=> iprop(BI.own (EH (initOf (K (F := F)).hsCells (K (F := F)).hsToks)) ∗ (bigSep Finset.univ fun d : Dev nD => extra (F := F) d)
        ∗ bigSep Finset.univ fun thr : Thread nD τ => bigSep Finset.univ fun q : Fin 1 => (P X).x q thr) := by
  unfold u₀
  rw [x_emp]
  iintro Hu
  ihave H := (ownU_pair _ _) $$ Hu
  icases H with ⟨HH, HK⟩
  ihave HK' := (own_pair_emb _ _ _) $$ HK
  icases HK' with ⟨HK, -⟩
  imod (Pipeline.fund_ghost cfgs EK cellOf_inj) $$ HK with ⟨Hg, Ht⟩
  imodintro
  isplitl [HH]; · iexact HH
  isplitl [Hg Ht]
  · iapply extras; isplitl [Hg]; · iexact Hg
    iexact Ht
  iempintro

/-! ## The unscoped buffers as held contents -/

theorem ub_held (d : Dev nD) (W : Valuation τ sig (Elt F)) :
    (unscopedBufs d (fun b => W (Proc.devRef .tc b)) : sProp 𝕄) = held (d.tc : Thread nD τ) ucRefs W := by
  unfold unscopedBufs StableHlo.held ucRefs StableHlo.tcRefs
  rw [Finset.filter_map, bigSep_map]
  rfl

/-! ## The TensorCore's call -/

/-- The rest of what the TensorCore has between handshakes. -/
def rest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1)))

theorem tcSt_eq (d : Dev nD) : ((K (F := F)).tcSt EH d 0 : sProp 𝕄)
    = iprop((∃ W, ⌜(K (F := F)).WBelow (T d) W 0⌝ ∗ owes (T d : Thread nD τ) (owedT (F := F) d) W) ∗ rest (F := F) d) := rfl

/-- The TensorCore owes nothing outside the handshakes. -/
theorem owed_none (c : Dev nD) (g : GSem nD τ sig) : owedT (F := F) c g none = 0 := by
  have h1 : ∀ (g' : GSem nD τ sig) (n : Fin 1) (k : ℕ), (tallyAt g' (some n : HIx 1) k : CellTallies nD τ sig (HIx 1)) g none = 0 := by
    intro g' n k
    rw [tallyAt_apply, if_neg (fun h => nomatch h.2)]
  unfold owedT
  rw [SparseCore.Cfg.Otc_zero, Fin.sum_univ_one]
  unfold SparseCore.Cfg.OtcAt
  exact Finset.sum_induction _ (fun t : CellTallies nD τ sig (HIx 1) => t g none = 0)
    (fun a b ha hb => by show a g none + b g none = 0; rw [ha, hb]) rfl fun c _ => h1 _ _ _

variable (m : (ℓ : Loc nD τ sig) → Buf (Elt F) ℓ)

/-- The launch memory of device `d`. -/
abbrev V0 (d : Dev nD) : Valuation τ sig (Elt F) := fun b => m (d, b)
/-- The contents around the TensorCore's call, by reference. -/
abbrev Vr (d : Dev nD) (b : Ref sig .tc) : Buf (Elt F) ((T d : Thread nD τ).loc b) := pre4 (V0 m d) (Proc.devRef .tc b)
abbrev Vq (d : Dev nD) (b : Ref sig .tc) : Buf (Elt F) ((T d : Thread nD τ).loc b) := V2 (V0 m d) (Proc.devRef .tc b)

/-- The TensorCore's call as a region. -/
def regm : Pipeline.RegionSeg (pcfgs (F := F)) adm (pdats (Vr m)) none defs₀ 𝒱₀ (K (F := F)).L (K (F := F)).lev 0 :=
  reg (Vr m) (Vq m) (rest (F := F)) owed_none
    (fun c => (tabs_0 _ _ _).trans (congrArg₂ tabIa (pre4_v25 _).symm (pre4_v27 _).symm))
    (fun c => (tabs_1 _ _ _).trans (congrArg₂ tabIb (pre4_v25 _).symm (pre4_v27 _).symm))
    (fun c => (tabs_2 _ _ _).trans (congrArg₂ tabIc (pre4_v25 _).symm (pre4_v27 _).symm))
    (fun c => (tabs_3 _ _ _).trans (congrArg₂ tabId (pre4_v25 _).symm (pre4_v27 _).symm))
    (fun c => (tabs_4 _ _ _).trans (congrArg₂ tabWa (pre4_v25 _).symm (pre4_v27 _).symm))
    (fun c => (tabs_5 _ _ _).trans (congrArg₂ tabWb (pre4_v25 _).symm (pre4_v27 _).symm))
    (fun c => (tabs_6 _ _ _).trans (congrArg₂ tabWc (pre4_v25 _).symm (pre4_v27 _).symm))
    (fun c => (tabs_7 _ _ _).trans (congrArg₂ tabWd (pre4_v25 _).symm (pre4_v27 _).symm))
    (fun c b h => tabs_ne _ _ _ b h)

theorem regm_pre (d : Dev nD) : (regm m).pre d
    = iprop(unscopedBufs d (Vr m d) ∗ rest (F := F) d ∗ ∃ W, ⌜(K (F := F)).WBelow (T d) W 0⌝ ∗ owes (T d : Thread nD τ) (owedT (F := F) d) W) := rfl
theorem regm_post (d : Dev nD) : (regm m).post d
    = iprop(unscopedBufs d (Vq m d) ∗ rest (F := F) d ∗ ∃ W, ⌜(K (F := F)).WBelow (T d) W 0⌝ ∗ owes (T d : Thread nD τ) (owedT (F := F) d) W) := rfl

/-- The call inside its own signature. -/
def coefP : Prog (TpuEff nD τ sig (Elt F) (ΛP (F := F)) .tc) PUnit := .op (.customCall (Pipeline.entry 0) ()) fun _ => .ret ⟨⟩

/-- Its run. -/
theorem coef_in (d : Dev nD) (Q : PUnit → sProp 𝕄) :
    iprop((iprop(boundary (d.tc : Thread nD τ) ∗ (regm m).post d) -∗ Q ⟨⟩) ∗ boundary (d.tc : Thread nD τ) ∗ (regm m).pre d
        ∗ levAts (K (F := F)).L (K (F := F)).lev ∗ extra (F := F) d)
      ⊢ wp frame (wpE (D (F := F)) 𝒱 (T d) none) Set.univ coefP Q := by
  have h := Pipeline.RegionSeg.wp (pcfgs (F := F)) adm (pdats (Vr m)) none cellOf_inj EK defs₀ 𝒱₀ (K (F := F)).L (K (F := F)).lev
    (regm m) d none (fun u h => nomatch h) (fun _ => .ret ⟨⟩) Q
  unfold coefP
  iintro ⟨Hk, Hb, Hp, Hl, Hg, Ht⟩
  iapply h
  isplitl [Hk]
  · iintro H
    rw [wp_ret]
    imodintro
    iapply Hk; iexact H
  isplitl [Hb]; · iexact Hb
  isplitl [Hp]; · iexact Hp
  isplitl [Hl]; · iexact Hl
  isplitl [Hg]; · iexact Hg
  iexact Ht

theorem coef_lift : (coefCall : Prog (TpuEff nD τ sig (Elt F) (SparseCore.Sig (ΛP (F := F)) 1) .tc) PUnit)
    = SparseCore.liftProg coefP := rfl

theorem coef_up (d : Dev nD) (Q : PUnit → sProp 𝕄) :
    wp frame (wpE (D (F := F)) 𝒱 (T d) none) Set.univ coefP Q
      ⊢ wp frame (wpE ((K (F := F)).defs (D (F := F))) 𝒱 (T d) none) Set.univ (SparseCore.liftProg coefP) Q :=
  (K (F := F)).wp_liftProg (D (F := F)) 𝒱 (T d) Set.univ none coefP Q

/-- The call in @main: from the contents before it to those after. -/
theorem coef_wp (d : Dev nD) (Q : PUnit → sProp 𝕄) :
    iprop((iprop(boundary (d.tc : Thread nD τ) ∗ held (d.tc : Thread nD τ) ucRefs (V2 (V0 m d)) ∗ (K (F := F)).tcSt EH d 0) -∗ Q ⟨⟩)
        ∗ boundary (d.tc : Thread nD τ) ∗ held (d.tc : Thread nD τ) ucRefs (pre4 (V0 m d)) ∗ (K (F := F)).tcSt EH d 0
        ∗ levAts (K (F := F)).L (K (F := F)).lev ∗ extra (F := F) d)
      ⊢ wp frame (wpE ((K (F := F)).defs (D (F := F))) 𝒱 (T d) none) Set.univ coefCall Q := by
  rw [coef_lift]
  refine BIBase.Entails.trans ?_ (coef_up d Q)
  refine BIBase.Entails.trans ?_ (coef_in m d Q)
  rw [tcSt_eq, regm_pre, regm_post, ← ub_held, ← ub_held]
  iintro ⟨Hk, Hb, Hh, ⟨HO, Hr⟩, Hl, Hx⟩
  isplitl [Hk]
  · iintro ⟨Hb, Hh, Hr, HO⟩
    iapply Hk
    isplitl [Hb]; · iexact Hb
    isplitl [Hh]; · iexact Hh
    isplitl [HO]; · iexact HO
    iexact Hr
  isplitl [Hb]; · iexact Hb
  isplitl [Hh Hr HO]
  · isplitl [Hh]; · iexact Hh
    isplitl [Hr]; · iexact Hr
    iexact HO
  isplitl [Hl]; · iexact Hl
  iexact Hx

/-! ## The SparseCore's call -/

/-- What the call is given on each device. -/
abbrev Xm (d : Dev nD) : Inp F := inp (V0 m d)

/-- The arrays the call takes. -/
def tenR : Finset (Ref sig .tc) := {main_v37, main_v29, main_v30, main_v31, main_v32, main_v33, main_v34, main_v35, main_v36, main_v38}
abbrev tenD : Finset (DevRef τ sig) := tenR.map ⟨Proc.devRef (τ := τ) .tc, Proc.devRef_injective _⟩

theorem mem_uc (r : Ref sig .tc) (h : ¬ (Proc.devRef (τ := τ) .tc r).isScoped) : Proc.devRef (τ := τ) .tc r ∈ ucRefs :=
  Finset.mem_filter.mpr ⟨Finset.mem_map_of_mem _ (Finset.mem_univ r), h⟩

theorem tenD_sub : tenD ⊆ ucRefs := by
  intro b hb
  obtain ⟨r, hr, rfl⟩ := Finset.mem_map.mp hb
  refine mem_uc r ?_
  revert r
  decide

theorem held_ten (d : Dev nD) (W : Valuation τ sig (Elt F)) : (held (d.tc : Thread nD τ) tenD W : sProp 𝕄)
    = iprop(((T d : Thread nD τ).loc main_v37 ↦{fullShare} W (Proc.devRef .tc main_v37)) ∗ ((T d : Thread nD τ).loc main_v29 ↦{fullShare} W (Proc.devRef .tc main_v29))
    ∗ ((T d : Thread nD τ).loc main_v30 ↦{fullShare} W (Proc.devRef .tc main_v30)) ∗ ((T d : Thread nD τ).loc main_v31 ↦{fullShare} W (Proc.devRef .tc main_v31))
    ∗ ((T d : Thread nD τ).loc main_v32 ↦{fullShare} W (Proc.devRef .tc main_v32)) ∗ ((T d : Thread nD τ).loc main_v33 ↦{fullShare} W (Proc.devRef .tc main_v33))
    ∗ ((T d : Thread nD τ).loc main_v34 ↦{fullShare} W (Proc.devRef .tc main_v34)) ∗ ((T d : Thread nD τ).loc main_v35 ↦{fullShare} W (Proc.devRef .tc main_v35))
    ∗ ((T d : Thread nD τ).loc main_v36 ↦{fullShare} W (Proc.devRef .tc main_v36)) ∗ (T d : Thread nD τ).loc main_v38 ↦{fullShare} W (Proc.devRef .tc main_v38)) := by
  unfold StableHlo.held tenD
  rw [bigSep_map]
  unfold tenR
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

theorem held_ten3 (d : Dev nD) : (held (d.tc : Thread nD τ) tenD (V3 (V0 m d)) : sProp 𝕄) = ten (Xm m) d (V3 (V0 m d) (Proc.devRef .tc main_v38)) := by
  rw [held_ten, V3_v37, V3_v29, V3_v30, V3_v31, V3_v32, V3_v33, V3_v34, V3_v35, V3_v36]
  rfl

theorem held_ten4 (d : Dev nD) : (held (d.tc : Thread nD τ) tenD (V4 (V0 m d)) : sProp 𝕄) = ten (Xm m) d (outV (Xm m d)) := by
  rw [held_ten, V4_v38, V4_ne _ _ (by decide), V4_ne _ _ (by decide), V4_ne _ _ (by decide), V4_ne _ _ (by decide), V4_ne _ _ (by decide), V4_ne _ _ (by decide),
    V4_ne _ _ (by decide), V4_ne _ _ (by decide), V4_ne _ _ (by decide), V3_v37, V3_v29, V3_v30, V3_v31, V3_v32, V3_v33, V3_v34, V3_v35, V3_v36]
  rfl

theorem held_off (d : Dev nD) : (held (d.tc : Thread nD τ) (ucRefs \ tenD) (V3 (V0 m d)) : sProp 𝕄) = held (d.tc : Thread nD τ) (ucRefs \ tenD) (V4 (V0 m d)) := by
  unfold StableHlo.held
  refine bigSep_congr fun b hb => ?_
  have hne : b ≠ Proc.devRef .tc main_v38 := by
    rintro rfl
    exact (Finset.mem_sdiff.mp hb).2 (Finset.mem_map_of_mem ⟨Proc.devRef (τ := τ) .tc, Proc.devRef_injective _⟩ (show main_v38 ∈ tenR by decide))
  rw [show V4 (V0 m d) b = V3 (V0 m d) b from Function.update_of_ne hne ..]

/-- The call in @main: the result's array at the blend, all else as it was. -/
theorem sc_wp (κ : GSem nD τ sig → ℕ) (d : Dev nD) (Q : PUnit → sProp 𝕄) :
    iprop((K (F := F)).ctx EH (P (Xm m)) κ ∗ (K (F := F)).tcSt EH d 0 ∗ held (d.tc : Thread nD τ) ucRefs (V3 (V0 m d))
        ∗ (((K (F := F)).tcSt EH d 1 ∗ held (d.tc : Thread nD τ) ucRefs (V4 (V0 m d))) -∗ Q ⟨⟩))
      ⊢ wp frame (wpE ((K (F := F)).defs (D (F := F))) 𝒱 (T d) none) Set.univ ((K (F := F)).run d 0) Q := by
  rw [StableHlo.held_sub_split (d.tc : Thread nD τ) tenD_sub (V3 (V0 m d)), StableHlo.held_sub_split (d.tc : Thread nD τ) tenD_sub (V4 (V0 m d)), held_ten3, held_ten4, held_off]
  have hg := give (Xm m) d (V3 (V0 m d) (Proc.devRef .tc main_v38))
  have ht := take (Xm m) d
  iintro ⟨#Hctx, Hst, ⟨Hten, Hoff⟩, Hk⟩
  ihave H := hg $$ Hten
  icases H with ⟨Hl, Hs⟩
  iapply ((K (F := F)).wp_run (D (F := F)) 𝒱 (EH := EH) (P := P (Xm m)) κ d 0) $$ [Hst Hs Hl Hoff Hk]
  isplitr; · iexact Hctx
  isplitl [Hst]; · iexact Hst
  isplitl [Hs]; · iexact Hs
  iintro ⟨Hst, Hd⟩
  iapply Hk
  isplitl [Hst]; · iexact Hst
  isplitl [Hl Hd]
  · iapply ht; isplitl [Hl]; · iexact Hl
    iexact Hd
  iexact Hoff

/-! ## @main on the TensorCore -/

variable (ρ : Dev nD → PrngReg)

/-- At the end the unscoped buffers are held at their last contents. -/
abbrev FIN (d : Dev nD) : sProp 𝕄 := held (d.tc : Thread nD τ) ucRefs (V5 (V0 m d))

theorem main_wp (κ : GSem nD τ sig → ℕ) (d : Dev nD) :
    iprop((K (F := F)).ctx EH (P (Xm m)) κ ∗ (K (F := F)).tcSt EH d 0 ∗ boundary (d.tc : Thread nD τ) ∗ held (d.tc : Thread nD τ) ucRefs (V0 m d) ∗ extra (F := F) d)
      ⊢ wp frame (wpE ((K (F := F)).defs (D (F := F))) 𝒱 (T d) none) Set.univ (main d)
          fun _ => iprop((K (F := F)).tcSt EH d 1 ∗ boundary (d.tc : Thread nD τ) ∗ FIN m d) := by
  rw [main_eq]
  iintro ⟨#Hctx, Hst, Hb, Hh, Hx⟩
  iapply (StableHlo.wp_seq (defs := (K (F := F)).defs (D (F := F))) (𝒱 := 𝒱) (bd := none) (E := Set.univ) d ucRefs _ preA (sub_of_forall preA_sub) preA_fresh (V0 m d)) $$ [Hb Hh]
  · isplitl [Hb]; · iexact Hb
    iexact Hh
  iintro ⟨Hb, Hh⟩
  iapply (StableHlo.wp_seq (defs := (K (F := F)).defs (D (F := F))) (𝒱 := 𝒱) (bd := none) (E := Set.univ) d ucRefs _ preB (sub_of_forall preB_sub) preB_fresh _) $$ [Hb Hh]
  · isplitl [Hb]; · iexact Hb
    iexact Hh
  iintro ⟨Hb, Hh⟩
  iapply (StableHlo.wp_seq (defs := (K (F := F)).defs (D (F := F))) (𝒱 := 𝒱) (bd := none) (E := Set.univ) d ucRefs _ preC (sub_of_forall preC_sub) preC_fresh _) $$ [Hb Hh]
  · isplitl [Hb]; · iexact Hb
    iexact Hh
  iintro ⟨Hb, Hh⟩
  iapply (StableHlo.wp_seq (defs := (K (F := F)).defs (D (F := F))) (𝒱 := 𝒱) (bd := none) (E := Set.univ) d ucRefs _ preD (sub_of_forall preD_sub) preD_fresh _) $$ [Hb Hh]
  · isplitl [Hb]; · iexact Hb
    iexact Hh
  iintro ⟨Hb, Hh⟩
  rw [wp_bind]
  ihave Hlev := (SparseCore.Cfg.ctx_levAts κ) $$ Hctx
  iapply (coef_wp m d _)
  isplitr [Hb Hh Hst Hx Hlev]
  swap
  · isplitl [Hb]; · iexact Hb
    isplitl [Hh]; · iexact Hh
    isplitl [Hst]; · iexact Hst
    isplitl [Hlev]; · iexact Hlev
    iexact Hx
  iintro ⟨Hb, Hh, Hst⟩
  iapply (StableHlo.wp_seq (defs := (K (F := F)).defs (D (F := F))) (𝒱 := 𝒱) (bd := none) (E := Set.univ) d ucRefs _ mid (sub_of_forall mid_sub) mid_fresh _) $$ [Hb Hh]
  · isplitl [Hb]; · iexact Hb
    iexact Hh
  iintro ⟨Hb, Hh⟩
  rw [wp_bind]
  iapply (sc_wp m κ d _)
  isplitr; · iexact Hctx
  isplitl [Hst]; · iexact Hst
  isplitl [Hh]; · iexact Hh
  iintro ⟨Hst, Hh⟩
  iapply (StableHlo.wp_seq (defs := (K (F := F)).defs (D (F := F))) (𝒱 := 𝒱) (bd := none) (E := Set.univ) d ucRefs _ post (sub_of_forall post_sub) post_fresh _) $$ [Hb Hh]
  · isplitl [Hb]; · iexact Hb
    iexact Hh
  iintro ⟨Hb, Hh⟩
  rw [wp_pure]
  imodintro
  isplitl [Hst]; · iexact Hst
  isplitl [Hb]; · iexact Hb
  iexact Hh

theorem hmain (κ : GSem nD τ sig → ℕ) (d : Dev nD) :
    iprop((K (F := F)).ctx EH (P (Xm m)) κ ∗ (K (F := F)).tcSt EH d 0 ∗ (K (F := F)).tcRes m ρ d ∗ extra (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((T d : Thread nD τ).loc b)) : sProp 𝕄) = held (d.tc : Thread nD τ) ucRefs (V0 m d) from ub_held d (V0 m d)]
  have h := main_wp m κ d
  iintro ⟨Hctx, Hst, ⟨Hb, Hh, Hts, -⟩, Hx⟩
  iapply wp_wand $$ [Hctx Hst Hb Hh Hx]
  · iapply h
    isplitl [Hctx]; · iexact Hctx
    isplitl [Hst]; · iexact Hst
    isplitl [Hb]; · iexact Hb
    isplitl [Hh]; · iexact Hh
    iexact Hx
  iintro %_ ⟨Hst, Hb, Hf⟩
  isplitl [Hst]; · iexact Hst
  isplitl [Hf]; · iexact Hf
  isplitl [Hb]; · iexact Hb
  iexact Hts

/-! ## The end of the run -/

theorem held_agree (d : Dev nD) (s' : Phys nD τ sig (Elt F)) (W : Valuation τ sig (Elt F)) (r : Ref sig .tc) (h : Proc.devRef (τ := τ) .tc r ∈ ucRefs) :
    iprop(held (d.tc : Thread nD τ) ucRefs W ∗ SI s') ⊢ (⌜s'.mem.mem ((T d : Thread nD τ).loc r) = W (Proc.devRef .tc r)⌝ : sProp 𝕄) := by
  have hs : (held (d.tc : Thread nD τ) {Proc.devRef (τ := τ) .tc r} W : sProp 𝕄) = ((T d : Thread nD τ).loc r ↦{fullShare} W (Proc.devRef .tc r)) := by
    unfold StableHlo.held; rw [bigSep_singleton]
  rw [StableHlo.held_sub_split (d.tc : Thread nD τ) (Finset.singleton_subset_iff.mpr h) W, hs]
  iintro ⟨⟨Hi, -⟩, HSI⟩
  ihave H := (SI_pointsTo_agree (st := s') (ℓ := (T d : Thread nD τ).loc r) (I := Finset.univ) (q := fullShare) (f := W (Proc.devRef .tc r))) $$ [HSI Hi]
  · isplitl [HSI] <;> iassumption
  icases H with %h2
  ipureintro; exact funext fun i => h2 i (Finset.mem_univ i)

/-- The result right, the arguments as they were. -/
def fq (d : Dev nD) (s' : Phys nD τ sig (Elt F)) : Prop :=
  s'.mem.mem ((T d : Thread nD τ).loc main_v39) = shapeCast S4x192x224x224 (outV (Xm m d)) shapeCasts_S38535168_S4x192x224x224
    ∧ s'.mem.mem ((T d : Thread nD τ).loc main_arg0) = m ((T d : Thread nD τ).loc main_arg0) ∧ s'.mem.mem ((T d : Thread nD τ).loc main_arg1) = m ((T d : Thread nD τ).loc main_arg1)

theorem pure_three (A : sProp 𝕄) {p q r : Prop} (hp : A ⊢ (⌜p⌝ : sProp 𝕄)) (hq : A ⊢ (⌜q⌝ : sProp 𝕄)) (hr : A ⊢ (⌜r⌝ : sProp 𝕄)) : A ⊢ (⌜p ∧ q ∧ r⌝ : sProp 𝕄) := by
  iintro H
  ihave H := (persistent_entails_right hp) $$ H
  icases H with ⟨%h1, H⟩
  ihave H := (persistent_entails_right hq) $$ H
  icases H with ⟨%h2, H⟩
  ihave H := hr $$ H
  icases H with %h3
  ipureintro; exact ⟨h1, h2, h3⟩

theorem hfin (d : Dev nD) (s' : Phys nD τ sig (Elt F)) : iprop(FIN m d ∗ SI s') ⊢ (⌜fq m d s'⌝ : sProp 𝕄) := by
  have h39 := held_agree d s' (V5 (V0 m d)) main_v39 (mem_uc _ (by decide))
  have h0 := held_agree d s' (V5 (V0 m d)) main_arg0 (mem_uc _ (by decide))
  have h1 := held_agree d s' (V5 (V0 m d)) main_arg1 (mem_uc _ (by decide))
  rw [V5_v39] at h39
  rw [V5_arg0] at h0
  rw [V5_arg1] at h1
  exact pure_three _ h39 h0 h1

/-- What a run ends in. -/
def QC : PUnit × MemSt nD τ sig (Elt F) → Prop := fun r => (∀ c : Dev nD,
  r.2.mem ((T c : Thread nD τ).loc main_v39) = shapeCast S4x192x224x224 (outV (Xm m c)) shapeCasts_S38535168_S4x192x224x224
    ∧ r.2.mem ((T c : Thread nD τ).loc main_arg0) = m ((T c : Thread nD τ).loc main_arg0) ∧ r.2.mem ((T c : Thread nD τ).loc main_arg1) = m ((T c : Thread nD τ).loc main_arg1))
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xm m)) (A := ∅) facts v₀
    (fun q hq => match q with | 0 => nomatch hq)
    (fun q _ => match q with | 0 => tileObl (Xm m) facts fun d => inpOf_inRange _ _)
    (fun q _ => match q with | 0 => SparseCore.Cfg.VecSplit.of_plain (vecSplit (Xm m)))
    m ρ main (fun d => extra (F := F) d) (FIN m) (u₀ (F := F)) (sep_elim_left.trans (hu₀ (Xm m))) (hmain m ρ) (fq m) (hfin m) (QC m) (fun _ h hz => ⟨h, hz⟩)

end Cert.Proof.KernelIdeal
-- ==== Proof.Frames.lean ====
/-
  The frames: the kernel, its idealization and the reference run, leave their arguments as they were and every semaphore
  at zero.
-/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel runs to its end and leaves its arguments and its semaphores as they were. -/
theorem frame_k : Cert.quiescent_Kernel := fun m ρ _ =>
  (θ_run Cert.Kernel.defs _ _).mono (fun _ h => ⟨fun c => (h.1 c).2, h.2⟩) (Cert.Proof.Kernel.run_main (F := Bits) m ρ)

/-- The same of its idealization. -/
theorem frame_ki : Cert.quiescent_KernelIdeal := fun m ρ _ =>
  (θ_run Cert.KernelIdeal.defs _ _).mono (fun _ h => ⟨fun c => (h.1 c).2, h.2⟩) (Cert.Proof.KernelIdeal.run_main (F := Ideal) m ρ)

/-- The same of the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.Ops.lean ====
/-
  The reference's operations read at an index: its matrix product as a product summed along an axis, its reading of a row
  by number, and its image as a table of pixels.
-/
module

public import proofs.«01_k».proof.Proof.Gen.ReferenceIdeal
public import Idealize.ShloMosaic.Lib.Pipeline.Value
public import Idealize.ShloMosaic.Lib.Pointwise.Reduce
public import Idealize.ShloMosaic.Lib.Routing.Ops
public import Idealize.ShloMosaic.Lib.ReduceAll
public import Idealize.ShloMosaic.Lib.ValueIdx

@[expose] public section

noncomputable section

namespace Cert.Proof.Value

open Cert.ReferenceIdeal Cert.ReferenceIdeal.Gen Idealize.ShloMosaic
open Idealize.ShloMosaic.ValueIdx (contrEquiv1 contrEquiv1_symm_val)
open scoped BigOperators

/-! ## The matrix product -/

/-- The product of every batch's affine map with the grid, read at an index: three products added. -/
theorem dot_apply (A : Vec Ideal S4x2x3 .f32) (G : Vec Ideal S3x50176 .f32) (b : Fin 4) (r : Fin 2) (n : Fin 50176) :
    (Host.dotGeneral (F := Ideal) (φ₁ := .f32) (φ₂ := .f32) dot_S4x2x3_S3x50176_S4x2x50176_2_0_01_1_n_n none A G : Vec Ideal S4x2x50176 .f32) (ix3 b r n)
      = ∑ k : Fin 3, (A (ix3 b r k) : EReal) * G (ix2 k n) := by
  let D := dot_S4x2x3_S3x50176_S4x2x50176_2_0_01_1_n_n
  have hr : D.contr.rank = 1 := rfl
  have hs : D.contr.size ⟨0, by rw [hr]; omega⟩ = 3 := rfl
  show FloatOps.dotGeneral (F := Ideal) (φ₁ := .f32) (φ₂ := .f32) D none .single A G (ix3 b r n) = _
  rw [Ideal.dotGeneral_apply, ← Equiv.sum_comp (contrEquiv1 D 3 hr hs).symm]
  refine Finset.sum_congr rfl fun k _ => ?_
  have h0 := contrEquiv1_symm_val D 3 hr hs k
  have el : D.lhsIdx (ix3 b r n) ((contrEquiv1 D 3 hr hs).symm k) = ix3 b r k := by
    funext a; apply Fin.ext
    match a with
    | ⟨0, _⟩ => rfl
    | ⟨1, _⟩ => rfl
    | ⟨2, _⟩ => exact h0
  have er : D.rhsIdx (ix3 b r n) ((contrEquiv1 D 3 hr hs).symm k) = ix2 k n := by
    funext a; apply Fin.ext
    match a with
    | ⟨0, _⟩ => exact h0
    | ⟨1, _⟩ => rfl
  rw [el, er]

/-- The sum along the third axis of four, from nought. -/
theorem sum_apply (v : Vec Ideal ⟨4, ![4, 2, 3, 50176]⟩ .f32) (h : (⟨4, ![4, 2, 3, 50176]⟩ : Shape).ReducesTo [2] S4x2x50176)
    (hu : 0 < S_.numel) (b : Fin 4) (r : Fin 2) (n : Fin 50176) :
    (Host.reduceAdd (F := Ideal) (φ := .f32) v (constant S_ .f32 0x00000000#32) h hu : Vec Ideal S4x2x50176 .f32) (ix3 b r n)
      = ∑ k : Fin 3, (v (ix4 b r k n) : EReal) := by
  rw [Host.reduceAdd_apply, Ideal.hostReduceAdd_def, Ideal.hostReduceAdd_r4_a2]
  have h0 : (constant (F := Ideal) S_ .f32 0x00000000#32 (Shape.Idx.first hu) : EReal) = 0 := Ideal.ofBits_zero_f32
  rw [h0, zero_add]
  rfl

/-! ## Reading a row by number -/

/-- The row numbers as the reference writes them: a number below nought counts from the end. -/
def rows (v : IVec S200704 32) (h : S200704.BroadcastsInDim S200704x1 ![0]) (hb : S_.BroadcastsInDim S200704 ![]) :
    IVec S200704x1 32 :=
  broadcastInDim S200704x1 ![0] h
    (select (cmpi .slt v (broadcastInDim S200704 ![] hb (constantI S_ 32 0#32)))
      (addi v (broadcastInDim S200704 ![] hb (constantI S_ 32 200704#32))) v)

/-- An array of one axis stood up as a column. -/
theorem column_apply {α : Type} (x : S200704.Idx → α) (h : S200704.BroadcastsInDim S200704x1 ![0]) (i : S200704x1.Idx) :
    broadcastInDim S200704x1 ![0] h x i = x (ix1 (i 0)) :=
  congrArg x (funext fun a => match a with | ⟨0, _⟩ => rfl)

/-- An array of one axis spread along the rows of a table. -/
theorem spread_apply {α : Type} (x : S200704.Idx → α) (h : S200704.BroadcastsInDim S200704x192 ![0]) (i : Fin 200704) (c : Fin 192) :
    broadcastInDim S200704x192 ![0] h x (ix2 i c) = x (ix1 i) :=
  congrArg x (funext fun a => match a with | ⟨0, _⟩ => rfl)

/-- A column spread along the rows of a table. -/
theorem widen_apply {α : Type} (x : S200704x1.Idx → α) (h : S200704x1.BroadcastsInDim S200704x192 ![0, 1]) (i : Fin 200704) (c : Fin 192) :
    broadcastInDim S200704x192 ![0, 1] h x (ix2 i c) = x (ix2 i (0 : Fin 1)) :=
  congrArg x (funext fun a => match a with | ⟨0, _⟩ => rfl | ⟨1, _⟩ => rfl)

/-- A small word is not negative. -/
theorem toInt_small {v : BitVec 32} (hv : v.toNat < 200704) : v.toInt = v.toNat := by
  rw [BitVec.toInt_eq_toNat_cond, if_pos (by omega)]

/-- A small word is not below nought, as the reference asks. -/
theorem not_neg {v : BitVec 32} (hv : v.toNat < 200704) : IntOp.cmpi .slt v 0#32 = 0#1 := by
  have h : v.slt 0#32 = false := by
    rw [BitVec.slt_eq_decide, decide_eq_false_iff_not, toInt_small hv]; simp
  unfold IntOp.cmpi
  simp [h]

/-- A small word names a row, as the reference asks. -/
theorem in_range {v : BitVec 32} (hv : v.toNat < 200704) :
    IntOp.andi (IntOp.cmpi .sge v 0#32) (IntOp.cmpi .sle v 200703#32) = 1#1 := by
  have h0 : (0#32).sle v = true := by
    rw [BitVec.sle_eq_decide, decide_eq_true_eq, toInt_small hv]; simp
  have h1 : v.sle 200703#32 = true := by
    rw [BitVec.sle_eq_decide, decide_eq_true_eq, toInt_small hv]
    have : (200703#32).toInt = 200703 := by decide
    rw [this]; omega
  unfold IntOp.cmpi
  simp [h0, h1, IntOp.andi]

/-- A small row number stays as it is. -/
theorem rows_apply (v : IVec S200704 32) (h : S200704.BroadcastsInDim S200704x1 ![0]) (hb : S_.BroadcastsInDim S200704 ![])
    (i : S200704x1.Idx) (hv : (v (ix1 (i 0))).toNat < 200704) : rows v h hb i = v (ix1 (i 0)) := by
  unfold rows
  rw [column_apply]
  show Scalar.select (IntOp.cmpi .slt (v (ix1 (i 0))) 0#32) (IntOp.addi (v (ix1 (i 0))) 200704#32) (v (ix1 (i 0))) = _
  rw [not_neg hv]
  rfl

/-- Where every row number is within the table, what the reference reads at a row number is that row of the table. -/
theorem take_apply (x : Vec Ideal S200704x192 .f32) (v : IVec S200704 32) (z : Vec Ideal S200704x192 .f32)
    (h : S200704.BroadcastsInDim S200704x1 ![0]) (hb : S_.BroadcastsInDim S200704 ![])
    (h1 : S200704.BroadcastsInDim S200704x192 ![0]) (h2 : S_.BroadcastsInDim S200704x1 ![])
    (h3 : S1x1.BroadcastsInDim S200704x1 ![0, 1]) (h4 : S1.BroadcastsInDim S1x1 ![1])
    (h5 : S200704x1.ReducesTo [1] S200704) (hu : 0 < S_.numel)
    (hv : ∀ k, (v k).toNat < 200704) (i : Fin 200704) (c : Fin 192) :
    select (broadcastInDim S200704x192 ![0] h1
        (Host.reduce IntOp.andi (andi (cmpi .sge (rows v h hb) (broadcastInDim S200704x1 ![] h2 (constantI S_ 32 0#32)))
          (cmpi .sle (rows v h hb) (broadcastInDim S200704x1 ![0, 1] h3 (broadcastInDim S1x1 ![1] h4 (constantI S1 32 200703#32)))))
          (constantI S_ 1 1#1) h5 hu))
      (Host.gather gather_S200704x192_S200704x1_S200704x192_1_0_n_n_0_1_1192 x (rows v h hb)) z (ix2 i c)
      = x (ix2 ⟨(v (ix1 i)).toNat, hv _⟩ c) := by
  have hm := Host.reduce_andi_one (andi (cmpi .sge (rows v h hb) (broadcastInDim S200704x1 ![] h2 (constantI S_ 32 0#32)))
      (cmpi .sle (rows v h hb) (broadcastInDim S200704x1 ![0, 1] h3 (broadcastInDim S1x1 ![1] h4 (constantI S1 32 200703#32)))))
    (constantI S_ 1 1#1) h5 hu (ix1 i) rfl fun k => by
      show IntOp.andi (IntOp.cmpi .sge (rows v h hb k) 0#32) (IntOp.cmpi .sle (rows v h hb k) 200703#32) = 1#1
      rw [rows_apply v h hb k (hv _)]
      exact in_range (hv _)
  show Scalar.select (broadcastInDim S200704x192 ![0] h1 (Host.reduce _ _ _ h5 hu) (ix2 i c)) _ _ = _
  rw [spread_apply, hm]
  show Host.gather gather_S200704x192_S200704x1_S200704x192_1_0_n_n_0_1_1192 x (rows v h hb) (ix2 i c) = _
  refine Routing.gather_row gather_S200704x192_S200704x1_S200704x192_1_0_n_n_0_1_1192 rfl rfl rfl rfl rfl x (rows v h hb) i c _ ?_ (by decide)
  rw [rows_apply v h hb _ (hv _)]
  exact (BitVec.eq_of_toNat_eq (by rw [BitVec.toNat_ofNat, Nat.mod_eq_of_lt (BitVec.isLt _)]))

/-! ## The image as a table of pixels -/

/-- Row `n` of the table is pixel `n`: batch by batch, row by row. -/
theorem pixels_apply (x : Vec Ideal S4x192x224x224 .f32) (ht : S4x192x224x224.Transposes [0, 2, 3, 1] S4x224x224x192)
    (hs : S4x224x224x192.ShapeCasts S200704x192) (b : Fin 4) (r w : Fin 224) (n : Fin 200704) (c : Fin 192)
    (hn : n.val = 50176 * b.val + (224 * r.val + w.val)) :
    shapeCast S200704x192 (transpose S4x224x224x192 [0, 2, 3, 1] x ht) hs (ix2 n c) = x (ix4 b c r w) := by
  rw [shapeCast_apply _ hs (ix2 n c) (ix4 b r w c) (by
    rw [Shape.rowMajor_val_four, Shape.rowMajor_val_two]
    show ((b.val * 224 + r.val) * 224 + w.val) * 192 + c.val = n.val * 192 + c.val
    omega)]
  refine transpose_apply _ x ht _ (ix4 b c r w) fun a => ?_
  match a with
  | ⟨0, _⟩ => rfl
  | ⟨1, _⟩ => rfl
  | ⟨2, _⟩ => rfl
  | ⟨3, _⟩ => rfl

/-- A table of pixels as an image. -/
theorem image_apply (x : Vec Ideal S200704x192 .f32) (hs : S200704x192.ShapeCasts S4x224x224x192)
    (ht : S4x224x224x192.Transposes [0, 3, 1, 2] S4x192x224x224) (b : Fin 4) (c : Fin 192) (r w : Fin 224) (n : Fin 200704)
    (hn : n.val = 50176 * b.val + (224 * r.val + w.val)) :
    transpose S4x192x224x224 [0, 3, 1, 2] (shapeCast S4x224x224x192 x hs) ht (ix4 b c r w) = x (ix2 n c) := by
  rw [transpose_apply _ _ ht (ix4 b c r w) (ix4 b r w c) fun a => by
    match a with
    | ⟨0, _⟩ => rfl
    | ⟨1, _⟩ => rfl
    | ⟨2, _⟩ => rfl
    | ⟨3, _⟩ => rfl]
  refine shapeCast_apply _ hs _ (ix2 n c) ?_
  rw [Shape.rowMajor_val_four, Shape.rowMajor_val_two]
  show n.val * 192 + c.val = ((b.val * 224 + r.val) * 224 + w.val) * 192 + c.val
  omega

end Cert.Proof.Value

end
-- ==== Proof.Value.Tables.lean ====
/-
  The reference's coordinates, weights and pixel numbers are the ones the kernel's first part makes.
-/
module

public import proofs.«01_k».proof.Proof.Value.Ops
public import proofs.«01_k».proof.Proof.KernelIdeal.Range
public import proofs.«01_k».proof.Proof.Gen.ReferenceIdeal.Run

@[expose] public section

noncomputable section

namespace Cert.Proof.Value

open Cert.ReferenceIdeal Cert.ReferenceIdeal.Gen Cert.ReferenceIdeal.Value Idealize.ShloMosaic Idealize.ShloMosaic.TcCoe
open Cert.KernelIdeal.Gen (k0_pay1 k0_pay2 k0_pay3 k0_pay4 k0_pay5 k0_pay6 k0_pay7 k0_pay8)
open Cert.Proof.KernelIdeal

/-- The affine map's product with the grid, summed from products. -/
theorem dot_eq_sum (A : Vec Ideal S4x2x3 .f32) (G : Vec Ideal S3x50176 .f32)
    (h1 : (⟨4, ![4, 2, 3, 1]⟩ : Shape).BroadcastsInDim ⟨4, ![4, 2, 3, 50176]⟩ ![0, 1, 2, 3])
    (h2 : S4x2x3.BroadcastsInDim ⟨4, ![4, 2, 3, 1]⟩ ![0, 1, 2])
    (h3 : (⟨4, ![1, 1, 3, 50176]⟩ : Shape).BroadcastsInDim ⟨4, ![4, 2, 3, 50176]⟩ ![0, 1, 2, 3])
    (h4 : S3x50176.BroadcastsInDim ⟨4, ![1, 1, 3, 50176]⟩ ![2, 3])
    (h : (⟨4, ![4, 2, 3, 50176]⟩ : Shape).ReducesTo [2] S4x2x50176) (hu : 0 < S_.numel) :
    (Host.dotGeneral (F := Ideal) (φ₁ := .f32) (φ₂ := .f32) dot_S4x2x3_S3x50176_S4x2x50176_2_0_01_1_n_n none A G : Vec Ideal S4x2x50176 .f32)
      = Host.reduceAdd (F := Ideal) (φ := .f32)
          (mulf (broadcastInDim _ ![0, 1, 2, 3] h1 (broadcastInDim _ ![0, 1, 2] h2 A))
            (broadcastInDim _ ![0, 1, 2, 3] h3 (broadcastInDim _ ![2, 3] h4 G)))
          (constant S_ .f32 0x00000000#32) h hu := by
  funext j
  obtain ⟨b, r, n, rfl⟩ : ∃ (b : Fin 4) (r : Fin 2) (n : Fin 50176), j = ix3 b r n :=
    ⟨j 0, j 1, j 2, funext fun a => match a with | ⟨0, _⟩ => rfl | ⟨1, _⟩ => rfl | ⟨2, _⟩ => rfl⟩
  rw [dot_apply]
  refine Eq.trans ?_ (sum_apply _ h hu b r n).symm
  refine Finset.sum_congr rfl fun k _ => ?_
  have eA : (broadcastInDim ⟨4, ![4, 2, 3, 50176]⟩ ![0, 1, 2, 3] h1 (broadcastInDim ⟨4, ![4, 2, 3, 1]⟩ ![0, 1, 2] h2 A)) (ix4 b r k n) = A (ix3 b r k) :=
    congrArg A (funext fun a => match a with | ⟨0, _⟩ => rfl | ⟨1, _⟩ => rfl | ⟨2, _⟩ => rfl)
  have eG : (broadcastInDim ⟨4, ![4, 2, 3, 50176]⟩ ![0, 1, 2, 3] h3 (broadcastInDim ⟨4, ![1, 1, 3, 50176]⟩ ![2, 3] h4 G)) (ix4 b r k n) = G (ix2 k n) :=
    congrArg G (funext fun a => match a with | ⟨0, _⟩ => rfl | ⟨1, _⟩ => rfl)
  show (A (ix3 b r k) : EReal) * G (ix2 k n) = FloatOps.mulf (F := Ideal) (φ := .f32) _ _
  rw [eA, eG]
  rfl

variable (V0 : Valuation τ sig (Elt Ideal))

/-- The reference's affine map. -/
abbrev θr : Vec Ideal S4x6 .f32 := V0 (Proc.devRef .tc main_arg1)

set_option maxRecDepth 8192 in
set_option maxHeartbeats 4000000 in
/-- The reference's sampled coordinates are the kernel's: a matrix product is its products summed. -/
theorem v18_eq : res_main_v18 V0 = xyV (F := Ideal) (θr V0) := by
  unfold res_main_v18 xyV
  refine (dot_eq_sum _ _ Cert.KernelIdeal.Facts₀.bcast_S4x2x3x1_S4x2x3x50176_0_1_2_3 Cert.KernelIdeal.Facts₀.bcast_S4x2x3_S4x2x3x1_0_1_2
    Cert.KernelIdeal.Facts₀.bcast_S1x1x3x50176_S4x2x3x50176_0_1_2_3 Cert.KernelIdeal.Facts₀.bcast_S3x50176_S1x1x3x50176_2_3
    Cert.KernelIdeal.Facts₀.reducesTo_S4x2x3x50176_S4x2x50176_d2 Cert.KernelIdeal.Facts₀.h_S_).trans ?_
  rfl

/-- A table of the kernel's first part, one entry after another. -/
def flat {α : Type} (t : Cert.KernelIdeal.S4x50176.Idx → α) : S200704.Idx → α :=
  shapeCast S200704 t Cert.KernelIdeal.Facts₀.shapeCasts_S4x50176_S200704

abbrev Xr : Vec Ideal Cert.KernelIdeal.S4x50176 .f32 := xsV (F := Ideal) (θr V0)
abbrev Yr : Vec Ideal Cert.KernelIdeal.S4x50176 .f32 := ysV (F := Ideal) (θr V0)

/-! The reference's values under names of their own, each of them a word or a number for every pixel. -/

/-- The sampled column of every pixel, in pixels. -/
def cx : FVec Ideal S200704 .f32 := res_main_v31 V0
/-- The sampled row of every pixel, in pixels. -/
def cy : FVec Ideal S200704 .f32 := res_main_v37 V0
/-- The column to the left. -/
def x0 : IVec S200704 32 := res_main_v46 V0
/-- The column to the right. -/
def x1 : IVec S200704 32 := res_main_v47 V0
/-- The row above. -/
def y0 : IVec S200704 32 := res_main_v48 V0
/-- The row below. -/
def y1 : IVec S200704 32 := res_main_v49 V0
/-- `x0` as a number. -/
def nx0 : FVec Ideal S200704 .f32 := res_main_v70 V0
/-- `x1` as a number. -/
def nx1 : FVec Ideal S200704 .f32 := res_main_v71 V0
/-- `y0` as a number. -/
def ny0 : FVec Ideal S200704 .f32 := res_main_v72 V0
/-- `y1` as a number. -/
def ny1 : FVec Ideal S200704 .f32 := res_main_v73 V0
/-- The first pixel of every pixel's batch. -/
def base : IVec S200704 32 := res_main_v54 V0
/-- The number of the pixel above to the left. -/
def pa : IVec S200704 32 := res_main_v61 V0
/-- The number of the pixel below to the left. -/
def pb : IVec S200704 32 := res_main_v62 V0
/-- The number of the pixel above to the right. -/
def pc : IVec S200704 32 := res_main_v63 V0
/-- The number of the pixel below to the right. -/
def pd : IVec S200704 32 := res_main_v64 V0

/-! How the values are made of one another. -/

theorem nx0_eq : nx0 V0 = sitofp .f32 (x0 V0) := rfl
theorem nx1_eq : nx1 V0 = sitofp .f32 (x1 V0) := rfl
theorem ny0_eq : ny0 V0 = sitofp .f32 (y0 V0) := rfl
theorem ny1_eq : ny1 V0 = sitofp .f32 (y1 V0) := rfl

/-- A word for every pixel, from one word. -/
def all (n : BitVec 32) : IVec S200704 32 := fun _ => n

theorem pa_eq : pa V0 = addi (addi (base V0) (muli (y0 V0) (all 224#32))) (x0 V0) := rfl
theorem pb_eq : pb V0 = addi (addi (base V0) (muli (y1 V0) (all 224#32))) (x0 V0) := rfl
theorem pc_eq : pc V0 = addi (addi (base V0) (muli (y0 V0) (all 224#32))) (x1 V0) := rfl
theorem pd_eq : pd V0 = addi (addi (base V0) (muli (y1 V0) (all 224#32))) (x1 V0) := rfl

theorem x0_eq' : x0 V0 = minsi (all 223#32) (maxsi (all 0#32) (fptosi 32 (Host.floor (cx V0)))) := rfl
theorem x1_eq' : x1 V0 = minsi (all 223#32) (maxsi (all 0#32) (addi (fptosi 32 (Host.floor (cx V0))) (all 1#32))) := rfl
theorem y0_eq' : y0 V0 = minsi (all 223#32) (maxsi (all 0#32) (fptosi 32 (Host.floor (cy V0)))) := rfl
theorem y1_eq' : y1 V0 = minsi (all 223#32) (maxsi (all 0#32) (addi (fptosi 32 (Host.floor (cy V0))) (all 1#32))) := rfl

/-- Coordinates in pixels, from coordinates between minus one and one. -/
def scale {s : Shape} (x : FVec Ideal s .f32) : FVec Ideal s .f32 :=
  divf (mulf (addf x (broadcast s (Scalar.ofBits (F := Ideal) .f32 0x3F800000#32))) (broadcast s (Scalar.ofBits (F := Ideal) .f32 0x43600000#32)))
    (broadcast s (Scalar.ofBits (F := Ideal) .f32 0x40000000#32))

/-- The kernel's columns in pixels. -/
theorem pay1_eq (x : FVec Ideal Cert.KernelIdeal.S4x50176 .f32) : k0_pay1 x = scale x := by
  unfold k0_pay1
  rw [shapeCast_self]
  rfl

/-- The kernel's rows in pixels. -/
theorem pay2_eq (x : FVec Ideal Cert.KernelIdeal.S4x50176 .f32) : k0_pay2 x = scale x := by
  unfold k0_pay2
  rw [shapeCast_self]
  rfl

/-! Every value is the kernel's table of the same name. -/

theorem cx_eq : cx V0 = flat (k0_pay1 (F := Ideal) (Xr V0)) := by
  rw [pay1_eq]
  show res_main_v31 V0 = _
  unfold res_main_v31 Xr xsV
  rw [v18_eq]
  rfl

theorem cy_eq : cy V0 = flat (k0_pay2 (F := Ideal) (Yr V0)) := by
  rw [pay2_eq]
  show res_main_v37 V0 = _
  unfold res_main_v37 Yr ysV
  rw [v18_eq]
  rfl

theorem x0_eq : x0 V0 = flat (k0_pay5 (F := Ideal) (Xr V0)) := by rw [x0_eq', cx_eq]; rfl
theorem x1_eq : x1 V0 = flat (k0_pay6 (F := Ideal) (Xr V0)) := by rw [x1_eq', cx_eq]; rfl
theorem y0_eq : y0 V0 = flat (k0_pay7 (F := Ideal) (Yr V0)) := by rw [y0_eq', cy_eq]; rfl
theorem y1_eq : y1 V0 = flat (k0_pay8 (F := Ideal) (Yr V0)) := by rw [y1_eq', cy_eq]; rfl

theorem wa_eq : mulf (subf (nx1 V0) (cx V0)) (subf (ny1 V0) (cy V0)) = flat (tabWa (F := Ideal) (Xr V0) (Yr V0)) := by
  rw [nx1_eq, ny1_eq, x1_eq, y1_eq, cx_eq, cy_eq]; rfl

theorem wb_eq : mulf (subf (nx1 V0) (cx V0)) (subf (cy V0) (ny0 V0)) = flat (tabWb (F := Ideal) (Xr V0) (Yr V0)) := by
  rw [nx1_eq, ny0_eq, x1_eq, y0_eq, cx_eq, cy_eq]; rfl

theorem wc_eq : mulf (subf (cx V0) (nx0 V0)) (subf (ny1 V0) (cy V0)) = flat (tabWc (F := Ideal) (Xr V0) (Yr V0)) := by
  rw [nx0_eq, ny1_eq, x0_eq, y1_eq, cx_eq, cy_eq]; rfl

theorem wd_eq : mulf (subf (cx V0) (nx0 V0)) (subf (cy V0) (ny0 V0)) = flat (tabWd (F := Ideal) (Xr V0) (Yr V0)) := by
  rw [nx0_eq, ny0_eq, x0_eq, y0_eq, cx_eq, cy_eq]; rfl

/-! ## The pixel numbers -/

/-- Every batch's first pixel, at each of the batch's pixels. -/
def firsts : IVec S4x50176 32 :=
  broadcastInDim S4x50176 ![0] bcast_S4_S4x50176_0 (muli (iotaInDim S4 32 0) (broadcastInDim S4 ![] bcast_S_S4 (constantI S_ 32 50176#32)))

theorem base_eq : base V0 = shapeCast S200704 firsts shapeCasts_S4x50176_S200704 := rfl

/-- A batch's first pixel. -/
theorem base_val (b : Fin 4) (k : Fin 200704) (n : Fin 50176) (hk : k.val = 50176 * b.val + n.val) :
    (base V0 (ix1 k)).toNat = 50176 * b.val := by
  have e : base V0 (ix1 k) = IntOp.muli (BitVec.ofNat 32 b.val) 50176#32 := by
    rw [base_eq, shapeCast_apply firsts shapeCasts_S4x50176_S200704 (ix1 k) (ix2 b n) (by
      rw [Shape.rowMajor_val_one, Shape.rowMajor_val_two]
      show b.val * 50176 + n.val = k.val
      omega)]
    rfl
  rw [e]
  have := b.isLt
  unfold IntOp.muli
  rw [BitVec.toNat_mul]
  simp only [BitVec.toNat_ofNat, Nat.reducePow, Nat.reduceMod]
  omega

/-- A pixel's number from its batch's first pixel, its row and its column. -/
theorem number_val {p y x : BitVec 32} {b : ℕ} (hb : b < 4) (hp : p.toNat = 50176 * b) (hy : y.toNat ≤ 223) (hx : x.toNat ≤ 223) :
    (IntOp.addi (IntOp.addi p (IntOp.muli y 224#32)) x).toNat = 50176 * b + (IntOp.addi (IntOp.muli y 224#32) x).toNat := by
  rw [place_val hy hx]
  unfold IntOp.addi IntOp.muli
  rw [BitVec.toNat_add, BitVec.toNat_add, BitVec.toNat_mul]
  simp only [BitVec.toNat_ofNat, Nat.reducePow, Nat.reduceMod]
  omega

variable (b : Fin 4) (k : Fin 200704) (n : Fin 50176) (hk : k.val = 50176 * b.val + n.val)
include hk

/-! Each number is the batch's first pixel and the kernel's position within the plane. -/

theorem pa_val : (pa V0 (ix1 k)).toNat = 50176 * b.val + (flat (tabIa (F := Ideal) (Xr V0) (Yr V0)) (ix1 k)).toNat := by
  rw [pa_eq, y0_eq, x0_eq]
  exact number_val b.isLt (base_val V0 b k n hk) (clip_le _) (clip_le _)

theorem pb_val : (pb V0 (ix1 k)).toNat = 50176 * b.val + (flat (tabIb (F := Ideal) (Xr V0) (Yr V0)) (ix1 k)).toNat := by
  rw [pb_eq, y1_eq, x0_eq]
  exact number_val b.isLt (base_val V0 b k n hk) (clip_le _) (clip_le _)

theorem pc_val : (pc V0 (ix1 k)).toNat = 50176 * b.val + (flat (tabIc (F := Ideal) (Xr V0) (Yr V0)) (ix1 k)).toNat := by
  rw [pc_eq, y0_eq, x1_eq]
  exact number_val b.isLt (base_val V0 b k n hk) (clip_le _) (clip_le _)

theorem pd_val : (pd V0 (ix1 k)).toNat = 50176 * b.val + (flat (tabId (F := Ideal) (Xr V0) (Yr V0)) (ix1 k)).toNat := by
  rw [pd_eq, y1_eq, x1_eq]
  exact number_val b.isLt (base_val V0 b k n hk) (clip_le _) (clip_le _)

end Cert.Proof.Value

end
-- ==== Proof.Value.Equal.lean ====
/-
  The reference's result is the kernel's: pixel by pixel the same four products of a weight and an image element, added in
  the same order.
-/
module

public import proofs.«01_k».proof.Proof.Value.Tables

@[expose] public section

noncomputable section

namespace Cert.Proof.Value

open Cert.ReferenceIdeal Cert.ReferenceIdeal.Gen Cert.ReferenceIdeal.Value Idealize.ShloMosaic Idealize.ShloMosaic.TcCoe
open Cert.Proof.KernelIdeal

variable (V0 : Valuation τ sig (Elt Ideal))

/-- The reference's image. -/
abbrev imgr : Vec Ideal S4x192x224x224 .f32 := V0 (Proc.devRef .tc main_arg0)

/-- The image as a table of pixels, a channel to a column. -/
def pixels : FVec Ideal S200704x192 .f32 :=
  shapeCast S200704x192 (transpose S4x224x224x192 [0, 2, 3, 1] (imgr V0) transposes_S4x192x224x224_S4x224x224x192_0_2_3_1)
    shapeCasts_S4x224x224x192_S200704x192

/-- One of the four terms: every pixel's weight times the pixel named, at every channel. -/
def term (w : FVec Ideal S200704 .f32) (t : IVec S200704 32) : FVec Ideal S200704x192 .f32 :=
  mulf (broadcastInDim S200704x192 ![0, 1] bcast_S200704x1_S200704x192_0_1 (broadcastInDim S200704x1 ![0] bcast_S200704_S200704x1_0 w))
    (select (broadcastInDim S200704x192 ![0] bcast_S200704_S200704x192_0
        (Host.reduce IntOp.andi (andi (cmpi .sge (rows t bcast_S200704_S200704x1_0 bcast_S_S200704) (broadcastInDim S200704x1 ![] bcast_S_S200704x1 (constantI S_ 32 0#32)))
          (cmpi .sle (rows t bcast_S200704_S200704x1_0 bcast_S_S200704) (broadcastInDim S200704x1 ![0, 1] bcast_S1x1_S200704x1_0_1 (broadcastInDim S1x1 ![1] bcast_S1_S1x1_1 (constantI S1 32 200703#32)))))
          (constantI S_ 1 1#1) reducesTo_S200704x1_S200704_d1 h_S_))
      (Host.gather gather_S200704x192_S200704x1_S200704x192_1_0_n_n_0_1_1192 (pixels V0) (rows t bcast_S200704_S200704x1_0 bcast_S_S200704))
      (broadcastInDim S200704x192 ![] bcast_S_S200704x192 (constant S_ .f32 0x7FC00000#32)))

/-- The reference's result. -/
def refOut : Vec Ideal S4x192x224x224 .f32 :=
  transpose S4x192x224x224 [0, 3, 1, 2] (shapeCast S4x224x224x192
    (addf (addf (addf
      (term V0 (mulf (subf (nx1 V0) (cx V0)) (subf (ny1 V0) (cy V0))) (pa V0))
      (term V0 (mulf (subf (nx1 V0) (cx V0)) (subf (cy V0) (ny0 V0))) (pb V0)))
      (term V0 (mulf (subf (cx V0) (nx0 V0)) (subf (ny1 V0) (cy V0))) (pc V0)))
      (term V0 (mulf (subf (cx V0) (nx0 V0)) (subf (cy V0) (ny0 V0))) (pd V0)))
    shapeCasts_S200704x192_S4x224x224x192) transposes_S4x224x224x192_S4x192x224x224_0_3_1_2

/-- What the kernel is given, of the reference's arguments. -/
abbrev inpr : Inp Ideal := inpOf (imgr V0) (θr V0)

/-- An element of the kernel's flat image. -/
theorem img_apply (b : Fin 4) (c : Fin 192) {p : ℕ} (hp : p < 50176) :
    (inpr V0).img (im (50176 * (192 * b.val + c.val) + p)) = imgr V0 (ix4 b c ⟨p / 224, by omega⟩ ⟨p % 224, by omega⟩) := by
  have hb := b.isLt; have hc := c.isLt
  refine shapeCast_apply (imgr V0) _ (im (50176 * (192 * b.val + c.val) + p)) (ix4 b c ⟨p / 224, by omega⟩ ⟨p % 224, by omega⟩) ?_
  rw [Shape.rowMajor_val_one, Shape.rowMajor_val_four, im_val (by omega)]
  show ((b.val * 192 + c.val) * 224 + p / 224) * 224 + p % 224 = _
  omega

/-- One term at a pixel and a channel, where the pixel named is number `p` of the same batch. -/
theorem term_apply (w : FVec Ideal S200704 .f32) (t : IVec S200704 32) (s : IVec S200704 32) (hs : ∀ k, (s k).toNat < 50176)
    (ht : ∀ (b : Fin 4) (k : Fin 200704) (n : Fin 50176), k.val = 50176 * b.val + n.val → (t (ix1 k)).toNat = 50176 * b.val + (s (ix1 k)).toNat)
    (b : Fin 4) (c : Fin 192) (k : Fin 200704) (n : Fin 50176) (hk : k.val = 50176 * b.val + n.val) :
    term V0 w t (ix2 k c) = FloatOps.mulf (w (ix1 k)) (tap (inpr V0) (192 * b.val + c.val) s k.val) := by
  have hv : ∀ i, (t i).toNat < 200704 := fun i => by
    obtain ⟨k, rfl⟩ : ∃ k : Fin 200704, i = ix1 k := ⟨i 0, funext fun a => match a with | ⟨0, _⟩ => rfl⟩
    have h0 := k.isLt
    have e := ht ⟨k.val / 50176, by omega⟩ k ⟨k.val % 50176, by omega⟩ (by show k.val = 50176 * (k.val / 50176) + k.val % 50176; omega)
    have h1 := hs (ix1 k)
    have e' : (t (ix1 k)).toNat = 50176 * (k.val / 50176) + (s (ix1 k)).toNat := e
    omega
  have hw : broadcastInDim S200704x192 ![0, 1] bcast_S200704x1_S200704x192_0_1 (broadcastInDim S200704x1 ![0] bcast_S200704_S200704x1_0 w) (ix2 k c) = w (ix1 k) := by
    rw [widen_apply, column_apply]
    rfl
  have hx := take_apply (pixels V0) t (broadcastInDim S200704x192 ![] bcast_S_S200704x192 (constant (F := Ideal) S_ .f32 0x7FC00000#32))
    bcast_S200704_S200704x1_0 bcast_S_S200704 bcast_S200704_S200704x192_0 bcast_S_S200704x1 bcast_S1x1_S200704x1_0_1 bcast_S1_S1x1_1
    reducesTo_S200704x1_S200704_d1 h_S_ hv k c
  have hp := hs (ix1 k)
  have hi : s (wi k.val) = s (ix1 k) := congrArg s (ext1 (wi_val k.isLt))
  refine congrArg₂ (FloatOps.mulf (F := Ideal) (φ := .f32)) hw (hx.trans ?_)
  show _ = (inpr V0).img (im (50176 * (192 * b.val + c.val) + (s (wi k.val)).toNat))
  rw [hi, img_apply V0 b c hp]
  refine pixels_apply (imgr V0) _ _ b ⟨(s (ix1 k)).toNat / 224, by omega⟩ ⟨(s (ix1 k)).toNat % 224, by omega⟩ _ c ?_
  show (t (ix1 k)).toNat = 50176 * b.val + (224 * ((s (ix1 k)).toNat / 224) + (s (ix1 k)).toNat % 224)
  rw [ht b k n hk]
  omega

/-- The reference's result is the kernel's. -/
theorem out_eq : refOut V0 = shapeCast S4x192x224x224 (outV (inpr V0)) Cert.KernelIdeal.Facts₀.shapeCasts_S38535168_S4x192x224x224 := by
  funext j
  obtain ⟨b, c, r, w, rfl⟩ : ∃ (b : Fin 4) (c : Fin 192) (r w : Fin 224), j = ix4 b c r w :=
    ⟨j 0, j 1, j 2, j 3, funext fun a => match a with | ⟨0, _⟩ => rfl | ⟨1, _⟩ => rfl | ⟨2, _⟩ => rfl | ⟨3, _⟩ => rfl⟩
  have hb := b.isLt; have hc := c.isLt; have hr := r.isLt; have hw := w.isLt
  have hn : 224 * r.val + w.val < 50176 := by omega
  have hk : 50176 * b.val + (224 * r.val + w.val) < 200704 := by omega
  -- the kernel's side
  have eK : shapeCast S4x192x224x224 (outV (inpr V0)) Cert.KernelIdeal.Facts₀.shapeCasts_S38535168_S4x192x224x224 (ix4 b c r w)
      = blend (inpr V0) (192 * b.val + c.val) (224 * r.val + w.val) := by
    rw [shapeCast_apply (outV (inpr V0)) _ (ix4 b c r w) (im (50176 * (192 * b.val + c.val) + (224 * r.val + w.val))) (by
      rw [Shape.rowMajor_val_one, Shape.rowMajor_val_four, im_val (by omega)]
      show _ = ((b.val * 192 + c.val) * 224 + r.val) * 224 + w.val
      omega)]
    show blend (inpr V0) (((im (50176 * (192 * b.val + c.val) + (224 * r.val + w.val))) 0).val / 50176)
      (((im (50176 * (192 * b.val + c.val) + (224 * r.val + w.val))) 0).val % 50176) = _
    rw [im_val (by omega), show (50176 * (192 * b.val + c.val) + (224 * r.val + w.val)) / 50176 = 192 * b.val + c.val by omega,
      show (50176 * (192 * b.val + c.val) + (224 * r.val + w.val)) % 50176 = 224 * r.val + w.val by omega]
  rw [eK]
  unfold refOut blend
  rw [image_apply _ _ _ b c r w ⟨50176 * b.val + (224 * r.val + w.val), hk⟩ rfl]
  have hq : (192 * b.val + c.val) / 192 = b.val := by omega
  have hi : wi (50176 * b.val + (224 * r.val + w.val)) = ix1 (⟨50176 * b.val + (224 * r.val + w.val), hk⟩ : Fin 200704) := ext1 (wi_val hk)
  simp only [hq]
  have ea := term_apply V0 (flat (tabWa (F := Ideal) (Xr V0) (Yr V0))) (pa V0) (flat (tabIa (F := Ideal) (Xr V0) (Yr V0))) (fun _ => tabIa_lt _ _ _)
    (fun b k n h => pa_val V0 b k n h) b c ⟨_, hk⟩ ⟨_, hn⟩ rfl
  have eb := term_apply V0 (flat (tabWb (F := Ideal) (Xr V0) (Yr V0))) (pb V0) (flat (tabIb (F := Ideal) (Xr V0) (Yr V0))) (fun _ => tabIb_lt _ _ _)
    (fun b k n h => pb_val V0 b k n h) b c ⟨_, hk⟩ ⟨_, hn⟩ rfl
  have ec := term_apply V0 (flat (tabWc (F := Ideal) (Xr V0) (Yr V0))) (pc V0) (flat (tabIc (F := Ideal) (Xr V0) (Yr V0))) (fun _ => tabIc_lt _ _ _)
    (fun b k n h => pc_val V0 b k n h) b c ⟨_, hk⟩ ⟨_, hn⟩ rfl
  have ed := term_apply V0 (flat (tabWd (F := Ideal) (Xr V0) (Yr V0))) (pd V0) (flat (tabId (F := Ideal) (Xr V0) (Yr V0))) (fun _ => tabId_lt _ _ _)
    (fun b k n h => pd_val V0 b k n h) b c ⟨_, hk⟩ ⟨_, hn⟩ rfl
  rw [wa_eq, wb_eq, wc_eq, wd_eq]
  refine (congrArg₂ (FloatOps.addf (F := Ideal) (φ := .f32)) (congrArg₂ (FloatOps.addf (F := Ideal) (φ := .f32))
    (congrArg₂ (FloatOps.addf (F := Ideal) (φ := .f32)) ea eb) ec) ed).trans ?_
  rw [hi]
  rfl

end Cert.Proof.Value

end
-- ==== Proof.Algebraic.lean ====
/-
  The value claim: at the reals the kernel's result is the reference's.
-/
module

public import proofs.«01_k».proof.Defs
public import proofs.«01_k».proof.Proof.KernelIdeal.Launch
public import proofs.«01_k».proof.Proof.Value.Equal

@[expose] public section

noncomputable section

namespace Cert.Proof

open Idealize.ShloMosaic Idealize.SL.Sem

/-- The reference runs to the result named. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v102)
          = Value.refOut (StableHlo.launchContents m c)
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  Cert.ReferenceIdeal.Value.run (F := Ideal) m ρ

/-- Of the same arguments the kernel and the reference make the same result, and leave the arguments as they were. -/
theorem algebraic : Cert.algebraic_KernelIdeal_ReferenceIdeal := fun m g m' g' _ harg => by
  refine ⟨fun c => shapeCast Cert.KernelIdeal.S4x192x224x224 (KernelIdeal.outV (F := Ideal) (KernelIdeal.Xm m c))
    Cert.KernelIdeal.Facts₀.shapeCasts_S38535168_S4x192x224x224, ?_, ?_⟩
  · exact (θ_run Cert.KernelIdeal.defs _ _).mono (fun _ h => h.1) (KernelIdeal.run_main (F := Ideal) m g)
  · refine (θ_run Cert.ReferenceIdeal.defs _ _).mono (fun r h c => ⟨(h c).1.trans ?_, (h c).2⟩) (run_ref m' g')
    rw [Value.out_eq]
    have h0 := (harg c).1
    have h1 := (harg c).2
    have e : Value.inpr (StableHlo.launchContents m' c) = KernelIdeal.Xm m c :=
      congrArg₂ KernelIdeal.inpOf h0 h1
    rw [e]

end Cert.Proof

end
-- ==== Proof.lean ====
/-
  The proof of `Cert.Claim`: the three frames, the idealization's faithfulness (nothing was rewritten, so there is nothing to
  prove), and the equality of the kernel's result with the reference's over the reals.
-/
module

public import proofs.«01_k».proof.Defs
public import proofs.«01_k».proof.Proof.Frames
public import proofs.«01_k».proof.Proof.Algebraic

@[expose] public section

noncomputable section

namespace Cert.Proof

/-- Every claim made of the kernel. -/
theorem claim : Cert.Claim :=
  ⟨Cert.Kernel.Gen.facts, Cert.KernelIdeal.Gen.facts, Cert.ReferenceIdeal.Gen.facts, frame_k, frame_ki, frame_ri, trivial, algebraic⟩

end Cert.Proof

end
